-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S8x1024x128 : Shape := ⟨3, ![8, 1024, 128]⟩
abbrev S8 : Shape := ⟨1, ![8]⟩
abbrev S_ : Shape := ⟨0, ![]⟩
abbrev S512x128 : Shape := ⟨2, ![512, 128]⟩
abbrev S1024x128 : Shape := ⟨2, ![1024, 128]⟩
abbrev S1x1024x128 : Shape := ⟨3, ![1, 1024, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .f32⟩
  | .local _ .vmem, ⟨0, _⟩ => ⟨S1024x512, .bf16⟩
  | .local _ .vmem, ⟨1, _⟩ => ⟨S512x1024, .bf16⟩
  | .local _ .vmem, ⟨2, _⟩ => ⟨S1024x1024, .f32⟩
  | .local _ .vmem, ⟨3, _⟩ => ⟨S8x1024x128, .bf16⟩
  | .local _ .vmem, ⟨4, _⟩ => ⟨S8x1024x128, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v22 : BitVec 32 := Scalar.muli v2 c2_i32_19
  let v23 : BitVec 32 := Scalar.addi c0_i32_20 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v24 : BitVec 32 := Scalar.muli v6 c1_i32_21
  let v25 : BitVec 32 := Scalar.addi v23 v24
  v25.toNat
def k0_dev3 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v42 : BitVec 32 := Scalar.muli v2 c2_i32_36
  let v43 : BitVec 32 := Scalar.addi c0_i32_37 v42
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v44 : BitVec 32 := Scalar.muli v6 c1_i32_38
  let v45 : BitVec 32 := Scalar.addi v43 v44
  v45.toNat
def k0_dev4 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v62 : BitVec 32 := Scalar.muli v2 c2_i32_53
  let v63 : BitVec 32 := Scalar.addi c0_i32_54 v62
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v64 : BitVec 32 := Scalar.muli v6 c1_i32_55
  let v65 : BitVec 32 := Scalar.addi v63 v64
  v65.toNat
def k0_dev5 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v82 : BitVec 32 := Scalar.muli v2 c2_i32_69
  let v83 : BitVec 32 := Scalar.addi c0_i32_70 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v84 : BitVec 32 := Scalar.muli v6 c1_i32_71
  let v85 : BitVec 32 := Scalar.addi v83 v84
  v85.toNat
def k0_dev6 (d0 : Dev nD) : Nat :=
  let c0_i32_86 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_85 : BitVec 32 := 2#32
  let v102 : BitVec 32 := Scalar.muli v2 c2_i32_85
  let v103 : BitVec 32 := Scalar.addi c0_i32_86 v102
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_87 : BitVec 32 := 1#32
  let v104 : BitVec 32 := Scalar.muli v6 c1_i32_87
  let v105 : BitVec 32 := Scalar.addi v103 v104
  v105.toNat
def k0_dev7 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v122 : BitVec 32 := Scalar.muli v2 c2_i32_101
  let v123 : BitVec 32 := Scalar.addi c0_i32_102 v122
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v124 : BitVec 32 := Scalar.muli v6 c1_i32_103
  let v125 : BitVec 32 := Scalar.addi v123 v124
  v125.toNat
def k0_dev8 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v142 : BitVec 32 := Scalar.muli v2 c2_i32_117
  let v143 : BitVec 32 := Scalar.addi c0_i32_118 v142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v144 : BitVec 32 := Scalar.muli v6 c1_i32_119
  let v145 : BitVec 32 := Scalar.addi v143 v144
  v145.toNat
def k0_dev9 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_133 : BitVec 32 := 2#32
  let v162 : BitVec 32 := Scalar.muli v2 c2_i32_133
  let v163 : BitVec 32 := Scalar.addi c0_i32_134 v162
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_135 : BitVec 32 := 1#32
  let v164 : BitVec 32 := Scalar.muli v6 c1_i32_135
  let v165 : BitVec 32 := Scalar.addi v163 v164
  v165.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .bf16⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Slabs.lean ====
/-
# Slabs and column blocks

The kernel moves its partial product in eight pieces. A piece travels as one of the eight slabs of the send and
receive buffers (`8 x 1024 x 128`) and is added into one of the eight column blocks (128 columns each) of the
output (`1024 x 1024`). This module names the rectangles and says what reading one after writing it, or another,
gives.
-/
module

public import proofs.«01_k».proof.Proof.Gen.KernelIdeal
public import proofs.«01_k».proof.Proof.Gen.KernelIdeal.Skeleton
public import Idealize.ShloMosaic.Lib.ViewIndex
public import Idealize.ShloMosaic.Lib.ValueLayout
public import Idealize.ShloMosaic.Lib.Tactic

@[expose] public section

noncomputable section

namespace Cert.Exchange

open Cert.KernelIdeal Cert.KernelIdeal.Gen
open Idealize.ShloMosaic Idealize.ShloMosaic.TcCoe Idealize.SL.Sem

variable {F : FTy → Type} [FloatOps F]

/-! ## The rectangles -/

/-- Slab `j` lies inside the buffer of eight slabs. -/
theorem slab_inb {j : ℕ} (hj : j < 8) : ∀ a, (![j, 0, 0] : Fin 3 → ℕ) a + S1x1024x128.size a ≤ S8x1024x128.size a := by
  intro a; fin_cases a
  · show j + 1 ≤ 8; omega
  · show 0 + 1024 ≤ 1024; omega
  · show 0 + 128 ≤ 128; omega

/-- A block of 128 columns from column `o` lies inside the output. -/
theorem col_inb {o : ℕ} (ho : o + 128 ≤ 1024) : ∀ a, (![0, o] : Fin 2 → ℕ) a + S1024x128.size a ≤ S1024x1024.size a := by
  intro a; fin_cases a
  · show 0 + 1024 ≤ 1024; omega
  · exact ho

/-- A block of 128 columns from column `o` lies inside the second operand's block. -/
theorem bcol_inb {o : ℕ} (ho : o + 128 ≤ 1024) : ∀ a, (![0, o] : Fin 2 → ℕ) a + S512x128.size a ≤ S512x1024.size a := by
  intro a; fin_cases a
  · show 0 + 512 ≤ 512; omega
  · exact ho

theorem col_le {j : ℕ} (hj : j < 8) : 128 * j + 128 ≤ 1024 := by omega

abbrev slabRect (j : ℕ) (hj : j < 8) : Rect S8x1024x128 := Rect.unit (s := S8x1024x128) ![j, 0, 0] S1x1024x128.size (slab_inb hj)
abbrev colRect (o : ℕ) (ho : o + 128 ≤ 1024) : Rect S1024x1024 := Rect.unit (s := S1024x1024) ![0, o] S1024x128.size (col_inb ho)
abbrev bcolRect (o : ℕ) (ho : o + 128 ≤ 1024) : Rect S512x1024 := Rect.unit (s := S512x1024) ![0, o] S512x128.size (bcol_inb ho)

abbrev Slabs : Type := Memref sig .tc .vmem S8x1024x128 .bf16
abbrev Outs : Type := Memref sig .tc .vmem S1024x1024 .f32

/-- Slab `j` of a buffer of eight, as the `1024 x 128` block the transfers move. -/
abbrev slab (M : Slabs) (j : ℕ) (hj : j < 8) : Memref sig .tc .vmem S1024x128 .bf16 :=
  (M.slice (slabRect j hj) (fun _ => rfl)).squeeze S1024x128 squeezes_S1x1024x128_S1024x128

/-! ## Slabs -/

/-- The slab's elements are those of the rectangle a load or store of it names. -/
theorem slab_set (M : Slabs) (j : ℕ) (hj : j < 8) : (slab M j hj).view.set = (M.access (slabRect j hj)).set :=
  View.set_reshape _ _

/-- Unit-stride rectangles that one axis keeps apart share no index. -/
theorem rect_disjoint {s : Shape} (r r' : Rect s) (a : Fin s.rank)
    (h : r.off a + r.stride a * (r.size a - 1) < r'.off a ∨ r'.off a + r'.stride a * (r'.size a - 1) < r.off a) :
    Disjoint r.set r'.set :=
  LoadRect.disjoint_of_separated r.toLoadRect r'.toLoadRect a (h.imp Or.inr Or.inr)

/-- Two slabs share no element. -/
theorem slab_disjoint (M : Slabs) (j j' : Fin 8) (h : j ≠ j') : Disjoint (slab M j j.2).view.set (slab M j' j'.2).view.set := by
  rw [slab_set, slab_set]
  refine View.disjoint_slice (rect_disjoint _ _ (0 : Fin 3) ?_)
  show j.val + 1 * (1 - 1) < j'.val ∨ j'.val + 1 * (1 - 1) < j.val
  omega

/-- After a store of a block into slab `j`, the slab reads that block. -/
theorem slab_read_store (M : Slabs) (j : ℕ) (hj : j < 8) (f : M.view.ty.Contents (Elt F)) (v : FVec F S1024x128 .bf16) :
    (slab M j hj).view.read (Elt F)
      ((M.access (slabRect j hj)).write (Elt F) f (shapeCast S1x1024x128 v shapeCasts_S1024x128_S1x1024x128) Finset.univ) = v := by
  show shapeCast S1024x128 ((M.access (slabRect j hj)).read (Elt F) _) shapeCasts_S1x1024x128_S1024x128 = v
  rw [View.read_write_univ]
  exact shapeCast_shapeCast v _ _

/-- A load of slab `j` reads the slab's block, under the shape of a slice. -/
theorem slab_load (M : Slabs) (j : ℕ) (hj : j < 8) (f : M.view.ty.Contents (Elt F)) :
    shapeCast S1024x128 ((M.access (slabRect j hj)).read (Elt F) f) shapeCasts_S1x1024x128_S1024x128
      = (slab M j hj).view.read (Elt F) f := rfl

/-! ## Column blocks of the output -/

/-- Two column blocks share no element. -/
theorem col_disjoint (M : Outs) (j j' : ℕ) (hj : j < 8) (hj' : j' < 8) (h : j ≠ j') :
    Disjoint (M.access (colRect (128 * j) (col_le hj))).set (M.access (colRect (128 * j') (col_le hj'))).set := by
  refine View.disjoint_slice (rect_disjoint _ _ (1 : Fin 2) ?_)
  show 128 * j + 1 * (128 - 1) < 128 * j' ∨ 128 * j' + 1 * (128 - 1) < 128 * j
  omega

/-- The output's column block `j`, at contents `f`. -/
def colRead (M : Outs) (f : M.view.ty.Contents (Elt F)) (j : ℕ) (hj : j < 8) : FVec F S1024x128 .f32 :=
  (M.access (colRect (128 * j) (col_le hj))).read (Elt F) f

/-- Writing column block `j`. -/
def colWrite (M : Outs) (f : M.view.ty.Contents (Elt F)) (j : ℕ) (hj : j < 8) (w : FVec F S1024x128 .f32) : M.view.ty.Contents (Elt F) :=
  (M.access (colRect (128 * j) (col_le hj))).write (Elt F) f w Finset.univ

/-- A column block just written reads what was written. -/
theorem colRead_colWrite (M : Outs) (f : M.view.ty.Contents (Elt F)) (j : ℕ) (hj : j < 8) (w : FVec F S1024x128 .f32) :
    colRead M (colWrite M f j hj w) j hj = w := View.read_write_univ _ _

/-- Writing one column block leaves the others. -/
theorem colRead_colWrite_ne (M : Outs) (f : M.view.ty.Contents (Elt F)) (j j' : ℕ) (hj : j < 8) (hj' : j' < 8) (h : j' ≠ j)
    (w : FVec F S1024x128 .f32) : colRead M (colWrite M f j hj w) j' hj' = colRead M f j' hj' :=
  View.read_slice_write_slice_of_disjoint _ _ _ _ _ (col_disjoint M j' j hj' hj h)

/-- An element of the output read through its column block. -/
theorem read_eq_colRead (M : Outs) (f : M.view.ty.Contents (Elt F)) (j : ℕ) (hj : j < 8) (i : S1024x1024.Idx)
    (x : S1024x128.Idx) (h0 : (i 0).val = (x 0).val) (h1 : (i 1).val = 128 * j + (x 1).val) :
    M.view.read (Elt F) f i = colRead M f j hj x := by
  have hi : (colRect (128 * j) (col_le hj)).emb x = i := funext fun a => Fin.ext (by
    fin_cases a
    · show 0 + 1 * (x 0).val = (i 0).val; omega
    · show 128 * j + 1 * (x 1).val = (i 1).val; omega)
  subst hi
  rfl

end Cert.Exchange

end
-- ==== Proof.Proto.lean ====
/-
# The exchange protocol

The mesh is `2 x 2`; the two devices of a row (`2r` and `2r + 1`) are peers. A device multiplies its block of the first
operand with its block of the second, which gives a PARTIAL product over its half of the contracted dimension; it sends
the partial, rounded, to its peer in eight slabs, and adds the eight slabs the peer sent.

One round per semaphore cell:

* the BARRIER cell of a device has one duty of one unit, paid by its peer's signal. It hands over the peer's eight
  receive slabs, and that the peer stands at round 0 of its eight receive cells: what a transfer to the peer needs;
* the SEND cell `j` has one duty, paid when the device's own transfer `j` has read its slab; it hands the send slab back;
* the RECEIVE cell `j` has one duty, paid when the peer's transfer `j` has landed; it hands over receive slab `j`,
  holding what the peer sent.
-/
module

public import proofs.«01_k».proof.Proof.Slabs
public import proofs.«01_k».proof.Proof.Gen.KernelIdeal.Launch
public import Idealize.ShloMosaic.Lib.Pipeline.Launch
public import Idealize.ShloMosaic.Lib.Pipeline.Kit

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's copy of the rounds algebra, and the exchange's. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Peers -/

set_option backward.proofsInPublic true in
/-- The other device of the same row. -/
def peer (c : Dev nD) : Dev nD := ⟨2 * (c.val / 2) + (1 - c.val % 2), by have h : c.val < 4 := c.isLt; show _ < 4; omega⟩

theorem peer_peer (c : Dev nD) : peer (peer c) = c := by revert c; decide

/-- The devices, each replaced by its peer. -/
def swap : Dev nD ≃ Dev nD := ⟨peer, peer, peer_peer, peer_peer⟩

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide
theorem dev7_eq (c : Dev nD) : (⟨k0_dev7 c, k0_dev7_lt c⟩ : Dev nD) = peer c := by revert c; decide
theorem dev8_eq (c : Dev nD) : (⟨k0_dev8 c, k0_dev8_lt c⟩ : Dev nD) = peer c := by revert c; decide
theorem dev9_eq (c : Dev nD) : (⟨k0_dev9 c, k0_dev9_lt c⟩ : Dev nD) = peer c := by revert c; decide

/-! ## Buffers and semaphores -/

abbrev aM : Memref sig .tc .vmem S1024x512 .bf16 := Memref.whole cc0_stg0_0
abbrev bM : Memref sig .tc .vmem S512x1024 .bf16 := Memref.whole cc0_stg1_0
abbrev oM : Outs := Memref.whole cc0_stg2_0
abbrev sendM : Slabs := Memref.whole cc0_scratch0
abbrev recvM : Slabs := Memref.whole cc0_scratch1

theorem sem_inb {j : ℕ} (hj : j < 8) : ∀ a, (![j] : Fin 1 → ℕ) a + S1.size a ≤ S8.size a := by
  intro a; fin_cases a; show j + 1 ≤ 8; omega

/-- The semaphore of transfer `j` on the sending and on the receiving side; the barrier semaphore. -/
abbrev sendSem (j : ℕ) (hj : j < 8) : DmaSem sig :=
  ((cc0_scratch2.slice (Rect.unit (s := S8) ![j] S1.size (sem_inb hj))).squeeze S_ squeezes_S1_S_).sem
abbrev recvSem (j : ℕ) (hj : j < 8) : DmaSem sig :=
  ((cc0_scratch3.slice (Rect.unit (s := S8) ![j] S1.size (sem_inb hj))).squeeze S_ squeezes_S1_S_).sem
abbrev barS : Sem sig := (SemArray.scalar (sig.barrier 0 rfl) : Sems sig S_).sem

/-- A device's cells: its barrier, its eight send cells, its eight receive cells. -/
abbrev Key : Type := Unit ⊕ (Fin 8 ⊕ Fin 8)

def csem : Key → SemLoc sig
  | .inl _ => .reg barS
  | .inr (.inl j) => .dma (sendSem j.val j.isLt)
  | .inr (.inr j) => .dma (recvSem j.val j.isLt)

theorem sendSem_val (j : ℕ) (hj : j < 8) : (sendSem j hj).val = 3 + j := by
  have h : ∀ j : Fin 8, (sendSem j.val j.isLt).val = 3 + j.val := by decide
  exact h ⟨j, hj⟩
theorem recvSem_val (j : ℕ) (hj : j < 8) : (recvSem j hj).val = 11 + j := by
  have h : ∀ j : Fin 8, (recvSem j.val j.isLt).val = 11 + j.val := by decide
  exact h ⟨j, hj⟩

/-- A number for each location: 0 for a regular semaphore, one more than its own number for a DMA semaphore. -/
def locNo : SemLoc sig → ℕ
  | .dma q => q.val + 1
  | .reg _ => 0

/-- The same of the exchange's keys. -/
def keyNo : Key → ℕ
  | .inl _ => 0
  | .inr (.inl j) => 3 + j.val + 1
  | .inr (.inr j) => 11 + j.val + 1

theorem locNo_csem (k : Key) : locNo (csem k) = keyNo k := by
  rcases k with _ | j | j
  · rfl
  · exact congrArg (· + 1) (sendSem_val j.val j.isLt)
  · exact congrArg (· + 1) (recvSem_val j.val j.isLt)

theorem keyNo_injective : Function.Injective keyNo := by decide

theorem csem_injective : Function.Injective csem := fun k k' h =>
  keyNo_injective ((locNo_csem k).symm.trans ((congrArg locNo h).trans (locNo_csem k')))

/-- The key of a semaphore, if it is one of the exchange's. -/
def keyOf (s : SemLoc sig) : Option Key := by
  classical
  exact if h : ∃ k, csem k = s then some h.choose else none

theorem keyOf_csem (k : Key) : keyOf (csem k) = some k := by
  unfold keyOf
  have h : ∃ k', csem k' = csem k := ⟨k, rfl⟩
  rw [dif_pos h]
  exact congrArg some (csem_injective h.choose_spec)

abbrev cell (c : Dev nD) (k : Key) : GSem nD τ sig := ((c : Thread nD τ), csem k)
abbrev barCell (c : Dev nD) : GSem nD τ sig := ((c : Thread nD τ), .reg barS)
abbrev sendCell (c : Dev nD) (j : ℕ) (hj : j < 8) : GSem nD τ sig := ((c : Thread nD τ), .dma (sendSem j hj))
abbrev recvCell (c : Dev nD) (j : ℕ) (hj : j < 8) : GSem nD τ sig := ((c : Thread nD τ), .dma (recvSem j hj))

theorem keyOf_bar : keyOf (.reg barS) = some (.inl ()) := keyOf_csem (.inl ())
theorem keyOf_send (j : ℕ) (hj : j < 8) : keyOf (.dma (sendSem j hj)) = some (.inr (.inl ⟨j, hj⟩)) := keyOf_csem (.inr (.inl ⟨j, hj⟩))
theorem keyOf_recv (j : ℕ) (hj : j < 8) : keyOf (.dma (recvSem j hj)) = some (.inr (.inr ⟨j, hj⟩)) := keyOf_csem (.inr (.inr ⟨j, hj⟩))

/-- The credit of one slab's transfer: the same for every slab, on either side. -/
abbrev N : ℕ := (slab recvM 0 (by decide)).view.dmaCredit
theorem N_pos : 0 < N := View.dmaCredit_pos _ (by decide)
theorem credit_recv (j : ℕ) (hj : j < 8) : (slab recvM j hj).view.dmaCredit = N := rfl
theorem credit_send (j : ℕ) (hj : j < 8) : (slab sendM j hj).view.dmaCredit = N := rfl

/-! ## Contents -/

/-- A device's blocks of the two operands, as staged. -/
def aOf (c : Dev nD) : (cc0_stg0_0 : Ref sig .tc).ty.Contents (Elt F) :=
  (win0_0.blk (0 : Fin 1)).view.read (Elt F) ((s₀ m ρ).mem ((c : Thread nD τ).loc main_arg0))
def bOf (c : Dev nD) : (cc0_stg1_0 : Ref sig .tc).ty.Contents (Elt F) :=
  (win0_1.blk (0 : Fin 1)).view.read (Elt F) ((s₀ m ρ).mem ((c : Thread nD τ).loc main_arg1))

/-- Columns `128 j` to `128 j + 127` of the second operand's block. -/
def bCols (c : Dev nD) (j : ℕ) (hj : j < 8) : Vec F S512x128 .bf16 :=
  bM.view.readAt (Elt F) (bcolRect (128 * j) (col_le hj)).toLoadRect (bOf m ρ c)

/-- Column block `j` of a device's partial product; -/
def part (c : Dev nD) (j : ℕ) (hj : j < 8) : FVec F S1024x128 .f32 := k0_pay4 (k0_pay1 (aOf m ρ c)) (bCols m ρ c j hj)
/-- what it sends of it: the same rounded; -/
def sent (c : Dev nD) (j : ℕ) (hj : j < 8) : FVec F S1024x128 .bf16 := truncf .bf16 (part m ρ c j hj) bitsLt_bf16_f32
/-- column block `j` of the result: its own partial and the peer's, as received. -/
def res (c : Dev nD) (j : ℕ) (hj : j < 8) : FVec F S1024x128 .f32 :=
  addf (part m ρ c j hj) (extf .f32 (sent m ρ (peer c) j hj) bitsLt_bf16_f32)

/-! ## The schedule -/

/-- Slab `j` of a buffer, held whole at some contents. -/
def slabAny (c : Dev nD) (M : Slabs) (j : ℕ) (hj : j < 8) : sProp 𝕄 :=
  iprop(∃ f : Buf (Elt F) ((slab M j hj).view.loc (c : Thread nD τ)), (slab M j hj).view.loc (c : Thread nD τ) ↦[(slab M j hj).view.set]{fullShare} f)

/-- Slab `j` of a buffer, reading `v`. -/
def slabIs (c : Dev nD) (M : Slabs) (j : ℕ) (hj : j < 8) (v : FVec F S1024x128 .bf16) : sProp 𝕄 :=
  iprop(∃ f : Buf (Elt F) ((slab M j hj).view.loc (c : Thread nD τ)), ⌜(slab M j hj).view.read (Elt F) f = v⌝ ∗ (slab M j hj).view.loc (c : Thread nD τ) ↦[(slab M j hj).view.set]{fullShare} f)

instance slabAny_storable (c : Dev nD) (M : Slabs) (j : ℕ) (hj : j < 8) : BI.Storable (upEmb : UEmb _ 𝕄) (slabAny (F := F) c M j hj) := by
  unfold slabAny; infer_instance
instance slabIs_storable (c : Dev nD) (M : Slabs) (j : ℕ) (hj : j < 8) (v : FVec F S1024x128 .bf16) :
    BI.Storable (upEmb : UEmb _ 𝕄) (slabIs (F := F) c M j hj v) := by
  unfold slabIs; infer_instance

/-- What a barrier unit hands device `c`: its peer's receive slabs, and that the peer is ready on them. -/
def barPay (c : Dev nD) : sProp 𝕄 :=
  bigSep Finset.univ fun j : Fin 8 => iprop(slabAny (peer c) recvM j.val j.isLt ∗ reached ER (recvCell (peer c) j.val j.isLt) 0)

instance barPay_storable (c : Dev nD) : BI.Storable (upEmb : UEmb _ 𝕄) (barPay (F := F) c) := by
  unfold barPay; infer_instance

/-- What each cell of device `c` hands over. -/
def pay (c : Dev nD) : Key → sProp 𝕄
  | .inl _ => barPay c
  | .inr (.inl j) => slabAny c sendM j.val j.isLt
  | .inr (.inr j) => slabIs c recvM j.val j.isLt (sent m ρ (peer c) j.val j.isLt)

instance pay_storable (c : Dev nD) (k : Key) : BI.Storable (upEmb : UEmb _ 𝕄) (pay (F := F) m ρ c k) := by
  rcases k with _ | j | j <;> (unfold pay; infer_instance)

def payOpt (c : Dev nD) : Option Key → sProp 𝕄
  | some k => pay m ρ c k
  | none => iprop(emp)

instance payOpt_storable (c : Dev nD) (k : Option Key) : BI.Storable (upEmb : UEmb _ 𝕄) (payOpt (F := F) m ρ c k) := by
  cases k <;> (unfold payOpt; infer_instance)

def amt : Option Key → ℕ
  | some (.inl _) => 1
  | _ => N

theorem amt_pos (k : Option Key) : 0 < amt k := by
  rcases k with _ | _ | _
  · exact N_pos
  · exact Nat.one_pos
  · exact N_pos

/-- The protocol: one round, each cell of the exchange with one duty. -/
def sched : Rounds.Schedule (GSem nD τ sig) Unit 𝕄 where
  duties g r := if r = 0 ∧ g.1.2 = .tc ∧ (keyOf g.2).isSome then {()} else ∅
  unitless _ := False
  amount g _ _ := amt (keyOf g.2)
  payload g _ _ := payOpt m ρ g.1.1 (keyOf g.2)
  amount_pos g _ _ _ := amt_pos _

instance sched_storable (g : GSem nD τ sig) (r : ℕ) (d : Unit) :
    BI.Storable (upEmb : UEmb _ 𝕄) ((sched (F := F) m ρ).payload g r d) := by
  show BI.Storable upEmb (payOpt m ρ g.1.1 (keyOf g.2)); infer_instance

theorem duties_cell (c : Dev nD) (k : Key) : (sched (F := F) m ρ).duties (cell c k) 0 = {()} :=
  if_pos ⟨rfl, rfl, by show (keyOf (csem k)).isSome = true; rw [keyOf_csem]; rfl⟩
theorem duties_later (g : GSem nD τ sig) : ∀ r, 1 ≤ r → (sched (F := F) m ρ).duties g r = ∅ :=
  fun r hr => if_neg fun h => by omega
theorem amount_cell (c : Dev nD) (k : Key) (d : Unit) : (sched (F := F) m ρ).amount (cell c k) 0 d = amt (some k) :=
  congrArg amt (keyOf_csem k)
theorem payload_cell (c : Dev nD) (k : Key) (d : Unit) : (sched (F := F) m ρ).payload (cell c k) 0 d = pay m ρ c k :=
  congrArg (payOpt m ρ c) (keyOf_csem k)
theorem expect_cell (c : Dev nD) (k : Key) : (sched (F := F) m ρ).expect (cell c k) 0 = amt (some k) := by
  unfold Schedule.expect Schedule.amountOf; rw [duties_cell, Finset.sum_singleton, amount_cell]
theorem rest_cell (c : Dev nD) (k : Key) :
    bigSep ((sched (F := F) m ρ).duties (cell c k) 0 \ ∅) (fun d => (sched (F := F) m ρ).payload (cell c k) 0 d) = pay m ρ c k := by
  rw [Finset.sdiff_empty, duties_cell, bigSep_singleton, payload_cell]

/-! ## What a device owes; the levels -/

/-- The credits a device still owes its peer's receive cells once it has issued the first `n` transfers. -/
def owing (c : Dev nD) (n : ℕ) : CellTallies nD τ sig Unit :=
  ∑ j ∈ Finset.univ.filter (fun j : Fin 8 => n ≤ j.val), tallyAt (recvCell (peer c) j.val j.isLt) () N
/-- What it owes at launch: those of all eight, and its signal. -/
def O₀ (c : Dev nD) : CellTallies nD τ sig Unit := owing c 0 + tallyAt (barCell (peer c)) () 1

theorem filter_succ (n : ℕ) (hn : n < 8) :
    Finset.univ.filter (fun j : Fin 8 => n ≤ j.val) = insert (⟨n, hn⟩ : Fin 8) (Finset.univ.filter (fun j : Fin 8 => n + 1 ≤ j.val)) := by
  ext j; simp only [Finset.mem_filter, Finset.mem_univ, true_and, Finset.mem_insert, Fin.ext_iff]; omega

theorem owing_succ (c : Dev nD) (n : ℕ) (hn : n < 8) : owing c n = owing c (n + 1) + tallyAt (recvCell (peer c) n hn) () N := by
  unfold owing
  rw [filter_succ n hn, Finset.sum_insert (by simp), add_comm]

theorem owing_eight (c : Dev nD) : owing c 8 = 0 := by
  unfold owing
  rw [Finset.filter_false_of_mem fun j _ => by have := j.isLt; omega]; rfl

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvOpt : Option Key → ℕ
  | some (.inl _) => 1
  | some (.inr (.inr _)) => 2
  | _ => 0
/-- Barrier cells at level 1, receive cells at 2, everything else at 0. -/
def lv (g : GSem nD τ sig) (_ : Unit) : ℕ := lvOpt (keyOf g.2)

theorem owing_pos {c : Dev nD} {n : ℕ} {g : GSem nD τ sig} {u : Unit} (h : 0 < owing c n g u) :
    ∃ j : Fin 8, g = cell (peer c) (.inr (.inr j)) := by
  by_contra hn
  refine absurd h ?_
  unfold owing
  rw [Finset.sum_apply, Finsupp.finset_sum_apply, Finset.sum_eq_zero]
  · exact Nat.lt_irrefl 0
  · intro j _
    rw [tallyAt_apply, if_neg fun h' => hn ⟨j, h'.1⟩]

theorem O₀_pos {c : Dev nD} {g : GSem nD τ sig} {u : Unit} (h : 0 < O₀ c g u) :
    (∃ j : Fin 8, g = cell (peer c) (.inr (.inr j))) ∨ g = cell (peer c) (.inl ()) := by
  by_contra hn
  rw [not_or] at hn
  unfold O₀ at h
  rw [Pi.add_apply, Finsupp.add_apply, tallyAt_apply, if_neg fun h' => hn.2 h'.1, Nat.add_zero] at h
  exact hn.1 (owing_pos h)

theorem lv_bar (c : Dev nD) (u : Unit) : lv (cell c (.inl ())) u = 1 := congrArg lvOpt (keyOf_csem (.inl ()))
theorem lv_recv (c : Dev nD) (j : Fin 8) (u : Unit) : lv (cell c (.inr (.inr j))) u = 2 := congrArg lvOpt (keyOf_csem (.inr (.inr j)))

/-- A wait on a semaphore that is none of the exchange's, at launch's debts or none. -/
theorem mayWait_other (c : Dev nD) (q : DmaSem sig) (hq : keyOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl <;> exact Finset.mem_singleton_self _)
      (fun p hp => by rw [Finset.mem_singleton.mp hp]; show lvOpt (keyOf (.dma q)) ≤ 0; rw [hq]; exact le_refl 0)
      (fun g u hg => by
        rcases O₀_pos hg with ⟨j, rfl⟩ | rfl
        · rw [lv_recv]; decide
        · rw [lv_bar]; decide)
  · rw [MayWait_zero]; iintro -; iempintro

/-- At its barrier wait a device owes receive credits only, at a higher level. -/
theorem mayWait_bar (c : Dev nD) : (levAts L lv : sProp 𝕄) ⊢ MayWait (c : Thread nD τ) (.reg barS) () (owing c 0) :=
  MayOwe.of_cut (L := L) (lev := lv) 1 (fun p hp => by rw [Finset.mem_singleton.mp hp, L_tc]; exact Finset.mem_singleton_self _)
    (fun g u hg => by obtain ⟨j, rfl⟩ := owing_pos hg; exact Finset.mem_singleton_self _)
    (fun p hp => by rw [Finset.mem_singleton.mp hp]; exact (lv_bar c ()).le)
    (fun g u hg => by obtain ⟨j, rfl⟩ := owing_pos hg; rw [lv_recv]; decide)

end Cert.Exchange

end
-- ==== Proof.Steps.lean ====
/-
# The three phases of the kernel body, one chunk at a time

The body treats the eight chunks alike: multiply and send; receive and add; wait for the sends. Each phase is stated
once, for chunk `n`, as a step from the phase's state after `n` chunks to its state after `n + 1`.
-/
module

public import proofs.«01_k».proof.Proof.Proto
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## Families over the chunks, those to come and those done -/

/-- `Φ` of the chunks from `n` on; -/
def todo (n : ℕ) (Φ : Fin 8 → sProp 𝕄) : sProp 𝕄 := bigSep (Finset.univ.filter fun j : Fin 8 => n ≤ j.val) Φ
/-- of the chunks before `n`. -/
def done (n : ℕ) (Φ : Fin 8 → sProp 𝕄) : sProp 𝕄 := bigSep (Finset.univ.filter fun j : Fin 8 => j.val < n) Φ

theorem todo_zero (Φ : Fin 8 → sProp 𝕄) : todo (F := F) 0 Φ = bigSep Finset.univ Φ := by
  unfold todo; rw [Finset.filter_true_of_mem fun j _ => Nat.zero_le _]
theorem done_zero (Φ : Fin 8 → sProp 𝕄) : done (F := F) 0 Φ = iprop(emp) := by
  unfold done; rw [Finset.filter_false_of_mem fun j _ => Nat.not_lt_zero _]; exact bigSep_empty
theorem todo_eight (Φ : Fin 8 → sProp 𝕄) : todo (F := F) 8 Φ = iprop(emp) := by
  unfold todo; rw [Finset.filter_false_of_mem fun j _ => by have := j.isLt; omega]; exact bigSep_empty
theorem done_eight (Φ : Fin 8 → sProp 𝕄) : done (F := F) 8 Φ = bigSep Finset.univ Φ := by
  unfold done; rw [Finset.filter_true_of_mem fun j _ => j.isLt]
theorem todo_take (n : ℕ) (hn : n < 8) (Φ : Fin 8 → sProp 𝕄) : todo (F := F) n Φ = iprop(Φ ⟨n, hn⟩ ∗ todo (n + 1) Φ) := by
  unfold todo; rw [filter_succ n hn, bigSep_insert (by simp)]; rfl
theorem done_put (n : ℕ) (hn : n < 8) (Φ : Fin 8 → sProp 𝕄) : done (F := F) (n + 1) Φ = iprop(Φ ⟨n, hn⟩ ∗ done n Φ) := by
  unfold done
  rw [show Finset.univ.filter (fun j : Fin 8 => j.val < n + 1) = insert (⟨n, hn⟩ : Fin 8) (Finset.univ.filter fun j : Fin 8 => j.val < n) from by
      ext j; simp only [Finset.mem_filter, Finset.mem_univ, true_and, Finset.mem_insert, Fin.ext_iff]; omega,
    bigSep_insert (by simp)]; rfl

/-- One member of a family over a whole type. -/
theorem member {I : Type} [Fintype I] [DecidableEq I] (Φ : I → sProp 𝕄) (i : I) : bigSep Finset.univ Φ ⊢ Φ i :=
  bigSep_elim (Finset.mem_univ i)

/-! ## The records every device shares -/

/-- Every cell's invariant, at the names `K`, and that it stands at round 0 or later. -/
def records (K : Dev nD × Key → ℕ) : sProp 𝕄 :=
  iprop((bigSep Finset.univ fun ck : Dev nD × Key => cellInv ER (sched m ρ) (K ck) (cell ck.1 ck.2))
    ∗ bigSep Finset.univ fun ck : Dev nD × Key => reached ER (cell ck.1 ck.2) 0)

instance records_persistent (K : Dev nD × Key → ℕ) : BI.Persistent (records m ρ K) := by unfold records; infer_instance

theorem inv_of (K : Dev nD × Key → ℕ) (c : Dev nD) (k : Key) : records m ρ K ⊢ cellInv ER (sched m ρ) (K (c, k)) (cell c k) := by
  unfold records; iintro ⟨#HI, -⟩
  iapply (member (fun ck : Dev nD × Key => cellInv ER (sched m ρ) (K ck) (cell ck.1 ck.2)) (c, k)); iexact HI
theorem reached_of (K : Dev nD × Key → ℕ) (c : Dev nD) (k : Key) : records m ρ K ⊢ reached ER (cell c k) 0 := by
  unfold records; iintro ⟨-, #HR⟩
  iapply (member (fun ck : Dev nD × Key => (reached ER (cell ck.1 ck.2) 0 : sProp 𝕄)) (c, k)); iexact HR

/-! ## The states -/

abbrev aPts (c : Dev nD) : sProp 𝕄 := iprop(aM.view.loc (c : Thread nD τ) ↦{fullShare} aOf m ρ c)
abbrev bPts (c : Dev nD) : sProp 𝕄 := iprop(bM.view.loc (c : Thread nD τ) ↦{fullShare} bOf m ρ c)
abbrev oPts (c : Dev nD) (f : Buf (Elt F) (oM.view.loc (c : Thread nD τ))) : sProp 𝕄 := iprop(oM.view.loc (c : Thread nD τ) ↦{fullShare} f)

/-- What transfer `j` takes: both slabs, and the two duties it pays. -/
def sendTodo (c : Dev nD) (j : Fin 8) : sProp 𝕄 :=
  iprop(slabAny c sendM j.val j.isLt ∗ slabAny (peer c) recvM j.val j.isLt
    ∗ dutyTok ER (sendCell c j.val j.isLt) 0 () ∗ dutyTok ER (recvCell (peer c) j.val j.isLt) 0 () ∗ reached ER (recvCell (peer c) j.val j.isLt) 0)
/-- What it leaves: the credit its wait will spend. -/
def sendDone (c : Dev nD) (j : Fin 8) : sProp 𝕄 := cred (tallyAt (sendCell c j.val j.isLt) () N)

/-- After `n` chunks are multiplied and sent. -/
def sendState (c : Dev nD) (n : ℕ) : sProp 𝕄 :=
  iprop((∃ f : Buf (Elt F) (oM.view.loc (c : Thread nD τ)), ⌜∀ i (hi : i < 8), i < n → colRead oM f i hi = part m ρ c i hi⌝ ∗ oPts c f)
    ∗ bPts m ρ c ∗ todo n (sendTodo c) ∗ done n (sendDone c) ∗ ∃ W, owes (c : Thread nD τ) (owing c n) W)

def recvTodo (c : Dev nD) (j : Fin 8) : sProp 𝕄 :=
  iprop(cred (tallyAt (recvCell c j.val j.isLt) () N) ∗ atPos ER (recvCell c j.val j.isLt) 0 ∅ 0)
def recvDone (c : Dev nD) (j : Fin 8) : sProp 𝕄 := iprop(slabAny c recvM j.val j.isLt ∗ semVal (recvCell c j.val j.isLt) 0)

/-- After `n` chunks are received and added. -/
def recvState (c : Dev nD) (n : ℕ) : sProp 𝕄 :=
  iprop((∃ f : Buf (Elt F) (oM.view.loc (c : Thread nD τ)),
      ⌜∀ i (hi : i < 8), colRead oM f i hi = if i < n then res m ρ c i hi else part m ρ c i hi⌝ ∗ oPts c f)
    ∗ todo n (recvTodo c) ∗ done n (recvDone c) ∗ ∃ W, owes (c : Thread nD τ) 0 W)

def backTodo (c : Dev nD) (j : Fin 8) : sProp 𝕄 :=
  iprop(cred (tallyAt (sendCell c j.val j.isLt) () N) ∗ atPos ER (sendCell c j.val j.isLt) 0 ∅ 0)
def backDone (c : Dev nD) (j : Fin 8) : sProp 𝕄 := iprop(slabAny c sendM j.val j.isLt ∗ semVal (sendCell c j.val j.isLt) 0)

/-- After `n` sends are waited for. -/
def backState (c : Dev nD) (n : ℕ) : sProp 𝕄 :=
  iprop(todo n (backTodo c) ∗ done n (backDone c) ∗ ∃ W, owes (c : Thread nD τ) 0 W)

/-! ## A transfer -/

section Cells
variable (c : Dev nD) (j : ℕ) (hj : j < 8)

theorem duty_send : () ∈ (sched (F := F) m ρ).duties (sendCell c j hj) 0 := by
  have h := duties_cell (F := F) m ρ c (.inr (.inl ⟨j, hj⟩))
  exact (show (sched (F := F) m ρ).duties (sendCell c j hj) 0 = {()} from h) ▸ Finset.mem_singleton_self _
theorem duty_recv : () ∈ (sched (F := F) m ρ).duties (recvCell c j hj) 0 := by
  have h := duties_cell (F := F) m ρ c (.inr (.inr ⟨j, hj⟩))
  exact (show (sched (F := F) m ρ).duties (recvCell c j hj) 0 = {()} from h) ▸ Finset.mem_singleton_self _
theorem duty_bar : () ∈ (sched (F := F) m ρ).duties (barCell c) 0 := by
  have h := duties_cell (F := F) m ρ c (.inl ())
  exact (show (sched (F := F) m ρ).duties (barCell c) 0 = {()} from h) ▸ Finset.mem_singleton_self _
theorem amount_send : (sched (F := F) m ρ).amount (sendCell c j hj) 0 () = N := amount_cell m ρ c (.inr (.inl ⟨j, hj⟩)) ()
theorem amount_recv : (sched (F := F) m ρ).amount (recvCell c j hj) 0 () = N := amount_cell m ρ c (.inr (.inr ⟨j, hj⟩)) ()
theorem amount_bar : (sched (F := F) m ρ).amount (barCell c) 0 () = 1 := amount_cell m ρ c (.inl ()) ()
theorem payload_send : (sched (F := F) m ρ).payload (sendCell c j hj) 0 () = slabAny c sendM j hj := payload_cell m ρ c (.inr (.inl ⟨j, hj⟩)) ()
theorem payload_recv : (sched (F := F) m ρ).payload (recvCell c j hj) 0 () = slabIs c recvM j hj (sent m ρ (peer c) j hj) :=
  payload_cell m ρ c (.inr (.inr ⟨j, hj⟩)) ()
theorem payload_bar : (sched (F := F) m ρ).payload (barCell c) 0 () = barPay c := payload_cell m ρ c (.inl ()) ()
theorem expect_send : (sched (F := F) m ρ).expect (sendCell c j hj) 0 = N := expect_cell m ρ c (.inr (.inl ⟨j, hj⟩))
theorem expect_recv : (sched (F := F) m ρ).expect (recvCell c j hj) 0 = N := expect_cell m ρ c (.inr (.inr ⟨j, hj⟩))
theorem expect_bar : (sched (F := F) m ρ).expect (barCell c) 0 = 1 := expect_cell m ρ c (.inl ())
theorem rest_send : bigSep ((sched (F := F) m ρ).duties (sendCell c j hj) 0 \ ∅) (fun d => (sched (F := F) m ρ).payload (sendCell c j hj) 0 d)
    = slabAny c sendM j hj := rest_cell m ρ c (.inr (.inl ⟨j, hj⟩))
theorem rest_recv : bigSep ((sched (F := F) m ρ).duties (recvCell c j hj) 0 \ ∅) (fun d => (sched (F := F) m ρ).payload (recvCell c j hj) 0 d)
    = slabIs c recvM j hj (sent m ρ (peer c) j hj) := rest_cell m ρ c (.inr (.inr ⟨j, hj⟩))
theorem rest_bar : bigSep ((sched (F := F) m ρ).duties (barCell c) 0 \ ∅) (fun d => (sched (F := F) m ρ).payload (barCell c) 0 d)
    = barPay c := rest_cell m ρ c (.inl ())

theorem pay_back (fs : Buf (Elt F) ((slab sendM j hj).view.loc (c : Thread nD τ))) :
    ((slab sendM j hj).view.loc (c : Thread nD τ) ↦[(slab sendM j hj).view.set]{fullShare} fs : sProp 𝕄)
      ⊢ (sched (F := F) m ρ).payload (sendCell c j hj) 0 () := by
  rw [payload_send]; unfold slabAny; iintro H; iexists fs; iexact H

theorem pay_landed (fs : Buf (Elt F) ((slab sendM j hj).view.loc (c : Thread nD τ))) (hfs : (slab sendM j hj).view.read (Elt F) fs = sent m ρ c j hj)
    (fd : Buf (Elt F) ((slab recvM j hj).view.loc (peer c : Thread nD τ))) :
    ((slab recvM j hj).view.loc (peer c : Thread nD τ) ↦[(slab recvM j hj).view.set]{fullShare}
        (slab recvM j hj).view.write (Elt F) fd ((slab sendM j hj).view.read (Elt F) fs) Finset.univ : sProp 𝕄)
      ⊢ (sched (F := F) m ρ).payload (recvCell (peer c) j hj) 0 () := by
  rw [payload_recv, peer_peer]; unfold slabIs; iintro H
  iexists ((slab recvM j hj).view.write (Elt F) fd ((slab sendM j hj).view.read (Elt F) fs) Finset.univ); isplitr
  · ipureintro; exact (View.read_write_univ _ _).trans hfs
  iexact H

end Cells

/-- Issuing transfer `j` to the peer `n`, the send slab holding the value the schedule promises. -/
theorem wp_transfer (K : Dev nD × Key → ℕ) (c n : Dev nD) (hn : n = peer c) (j : ℕ) (hj : j < 8)
    {hsc : (slab recvM j hj : Memref sig (Dev.tc n : Thread nD τ).2.kind .vmem S1024x128 .bf16).view.ref.isScScratch = false}
    {hsrc : (slab sendM j hj).view.WordExact} {hdst : (slab recvM j hj).view.WordExact}
    {hsem : DmaTarget.Typed .vmem (.dma (recvSem j hj)) (.remote (Dev.tc n : Thread nD τ) (slab recvM j hj : Memref sig .tc .vmem S1024x128 .bf16) (.dma (sendSem j hj)) hsc)}
    {α : Type} {Q : α → sProp 𝕄} {k : PUnit → Prog (TpuEff nD τ sig (Elt F) Λ₀ .tc) α}
    (fs : Buf (Elt F) ((slab sendM j hj).view.loc (c : Thread nD τ))) (hfs : (slab sendM j hj).view.read (Elt F) fs = sent m ρ c j hj)
    (fd : Buf (Elt F) ((slab recvM j hj).view.loc (peer c : Thread nD τ)))
    (W : Waits sig Unit) :
    iprop(cellInv ER (sched m ρ) (K (c, .inr (.inl ⟨j, hj⟩))) (sendCell c j hj) ∗ cellInv ER (sched m ρ) (K (peer c, .inr (.inr ⟨j, hj⟩))) (recvCell (peer c) j hj)
        ∗ ((slab sendM j hj).view.loc (c : Thread nD τ) ↦[(slab sendM j hj).view.set]{fullShare} fs)
        ∗ ((slab recvM j hj).view.loc (peer c : Thread nD τ) ↦[(slab recvM j hj).view.set]{fullShare} fd)
        ∗ owes (c : Thread nD τ) (owing c j) W
        ∗ dutyTok ER (sendCell c j hj) 0 () ∗ reached ER (sendCell c j hj) 0
        ∗ dutyTok ER (recvCell (peer c) j hj) 0 () ∗ reached ER (recvCell (peer c) j hj) 0)
      ⊢ iprop(((cred (tallyAt (sendCell c j hj) () N) ∗ owes (c : Thread nD τ) (owing c (j + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slab sendM j hj) (.remote (Dev.tc n : Thread nD τ) (slab recvM j hj) (.dma (sendSem j hj)) hsc) (.dma (recvSem j hj)) hsrc hdst hsem) k) Q) := by
  subst hn
  exact Rounds.wp_send_pointsTo 𝒱₀ ER (sched m ρ) (c : Thread nD τ) none (κ₁ := K (c, .inr (.inl ⟨j, hj⟩))) (κ₂ := K (peer c, .inr (.inr ⟨j, hj⟩)))
    (r₁ := 0) (r₂ := 0) (d₁ := ()) (d₂ := ()) (fd := fd)
    (duty_send m ρ c j hj) (duty_recv m ρ (peer c) j hj)
    () () N rfl (amount_send m ρ c j hj) (amount_recv m ρ (peer c) j hj) (owing c (j + 1)) (owing_succ c j hj) (W := W)
    (pay_back m ρ c j hj fs) (pay_landed m ρ c j hj fs hfs fd)

/-! ## The phases, one chunk each -/

/-- The stored slab is the rounding of the stored block. -/
theorem rounded_eq (c : Dev nD) (n : ℕ) (hn : n < 8) :
    k0_pay5 (k0_pay1 (aOf m ρ c)) (bCols m ρ c n hn) = shapeCast S1x1024x128 (sent m ρ c n hn) shapeCasts_S1024x128_S1x1024x128 := rfl

/-- The block stored on receipt: the block held, and the block received made wide. -/
theorem added_eq (c : Dev nD) (n : ℕ) (hn : n < 8) (v : Vec F S1024x128 .f32) (r : Vec F S1x1024x128 .bf16) (hv : v = part m ρ c n hn)
    (hr : shapeCast S1024x128 r shapeCasts_S1x1024x128_S1024x128 = sent m ρ (peer c) n hn) : k0_pay18 v r = res m ρ c n hn := by
  show addf (shapeCast S1024x128 v shapeCasts_S1024x128_S1024x128)
    (extf .f32 (shapeCast S1024x128 r shapeCasts_S1x1024x128_S1024x128) bitsLt_bf16_f32) = _
  rw [hr, hv, shapeCast_self]; rfl

/-- Multiply and send chunk `n`: the two loads the kernel does not use, the stores of the partial and of its rounding, the
transfer. -/
theorem send_chunk (K : Dev nD × Key → ℕ) (c d : Dev nD) (hd : d = peer c) (n : ℕ) (hn : n < 8) (o : ℕ) (ho : o + 128 ≤ 1024) (hon : o = 128 * n)
    (pv : Vec F S512x128 .bf16 → FVec F S1024x128 .f32) (hpv : ∀ v, pv v = k0_pay4 (k0_pay1 (aOf m ρ c)) v)
    (pw : Vec F S512x128 .bf16 → FVec F S1x1024x128 .bf16) (hpw : ∀ v, pw v = k0_pay5 (k0_pay1 (aOf m ρ c)) v)
    {hl₁ : bM.view.LoadsAt (bcolRect o ho).toLoadRect} {hl₂ : oM.view.LoadsAt (colRect o ho).toLoadRect} {hl₃ : sendM.view.LoadsAt (slabRect n hn).toLoadRect}
    {hs₂ : (oM.access (colRect o ho)).Stores Finset.univ} {hs₃ : (sendM.access (slabRect n hn)).Stores Finset.univ}
    {hm₂ : (Finset.univ : Finset (colRect o ho).shape.Idx) = Finset.univ ∨ ∀ a, (colRect o ho).stride a = 1}
    {hm₃ : (Finset.univ : Finset (slabRect n hn).shape.Idx) = Finset.univ ∨ ∀ a, (slabRect n hn).stride a = 1}
    {hsc : (slab recvM n hn : Memref sig (Dev.tc d : Thread nD τ).2.kind .vmem S1024x128 .bf16).view.ref.isScScratch = false}
    {hsrc : (slab sendM n hn).view.WordExact} {hdst : (slab recvM n hn).view.WordExact}
    {hsem : DmaTarget.Typed .vmem (.dma (recvSem n hn)) (.remote (Dev.tc d : Thread nD τ) (slab recvM n hn : Memref sig .tc .vmem S1024x128 .bf16) (.dma (sendSem n hn)) hsc)}
    {α : Type} {Q : α → sProp 𝕄} {k : PUnit → Prog (TpuEff nD τ sig (Elt F) Λ₀ .tc) α} :
    iprop(records m ρ K ∗ sendState m ρ c n)
      ⊢ iprop((sendState m ρ c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.load bM (bcolRect o ho).toLoadRect hl₁) fun v =>
                .op (.load oM (colRect o ho).toLoadRect hl₂) fun _ =>
                .op (.store oM (colRect o ho) (pv v) Finset.univ hs₂ hm₂) fun _ =>
                .op (.load sendM (slabRect n hn).toLoadRect hl₃) fun _ =>
                .op (.store sendM (slabRect n hn) (pw v) Finset.univ hs₃ hm₃) fun _ =>
                .op (.enqueueDma (slab sendM n hn) (.remote (Dev.tc d : Thread nD τ) (slab recvM n hn) (.dma (sendSem n hn)) hsc) (.dma (recvSem n hn)) hsrc hdst hsem) k) Q) := by
  subst hon
  unfold sendState
  rw [todo_take n hn, done_put n hn]
  unfold sendTodo sendDone slabAny
  iintro ⟨#HR, ⟨%f, %hf, Ho⟩, Hb, ⟨⟨⟨%fs, Hs⟩, ⟨%fd, Hd⟩, Ht1, Ht2, #Hr2⟩, Htodo⟩, Hdone, ⟨%W, HO⟩⟩ Hk
  ihave #HI1 := (inv_of m ρ K c (.inr (.inl ⟨n, hn⟩))) $$ HR
  ihave #HI2 := (inv_of m ρ K (peer c) (.inr (.inr ⟨n, hn⟩))) $$ HR
  ihave #Hr1 := (reached_of m ρ K c (.inr (.inl ⟨n, hn⟩))) $$ HR
  iapply (wp_load 𝒱₀ (c : Thread nD τ) none Set.univ (m := bM) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := colRect (128 * n) (col_le hn)) (Mk := Finset.univ) (Finset.subset_univ _)) $$ Ho; iintro Ho
  iapply (wp_load_rect 𝒱₀ (c : Thread nD τ) none Set.univ (m := sendM) (r := slabRect n hn) (subset_of_eq (slab_set sendM n hn).symm)) $$ Hs; iintro Hs
  iapply (wp_store 𝒱₀ (c : Thread nD τ) none Set.univ (m := sendM) (r := slabRect n hn) (Mk := Finset.univ) (subset_of_eq (slab_set sendM n hn).symm)) $$ Hs; iintro Hs
  iapply (wp_transfer m ρ K c d hd n hn
    ((sendM.access (slabRect n hn)).write (Elt F) fs (pw (bCols m ρ c n hn)) Finset.univ)
    (by rw [hpw, rounded_eq]; exact slab_read_store sendM n hn fs _) fd W) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Ho]
  · iexists (colWrite oM f n hn (pv (bCols m ρ c n hn)))
    isplitr
    · ipureintro
      intro i hi hin
      by_cases h : i = n
      · subst h; rw [colRead_colWrite, hpv]; rfl
      · rw [colRead_colWrite_ne oM f n i hn hi h]; exact hf i hi (by omega)
    · iexact Ho
  isplitl [Hb]; · iexact Hb
  isplitl [Htodo]; · iexact Htodo
  isplitl [Hc Hdone]
  · isplitl [Hc] <;> iassumption
  iexists W; iexact HO

/-- Receive and add chunk `n`. -/
theorem recv_chunk (K : Dev nD × Key → ℕ) (c : Dev nD) (n : ℕ) (hn : n < 8) (o : ℕ) (ho : o + 128 ≤ 1024) (hon : o = 128 * n)
    (pv : Vec F S1024x128 .f32 → Vec F S1x1024x128 .bf16 → FVec F S1024x128 .f32) (hpv : ∀ v r, pv v r = k0_pay18 v r)
    {hl₂ hl₂' : oM.view.LoadsAt (colRect o ho).toLoadRect} {hl₃ : recvM.view.LoadsAt (slabRect n hn).toLoadRect}
    {hs₂ : (oM.access (colRect o ho)).Stores Finset.univ}
    {hm₂ : (Finset.univ : Finset (colRect o ho).shape.Idx) = Finset.univ ∨ ∀ a, (colRect o ho).stride a = 1}
    {hsrc : (slab sendM n hn).view.WordExact} {hdst : (slab recvM n hn).view.WordExact}
    {α : Type} {Q : α → sProp 𝕄} {k : PUnit → Prog (TpuEff nD τ sig (Elt F) Λ₀ .tc) α} :
    iprop(records m ρ K ∗ recvState m ρ c n)
      ⊢ iprop((recvState m ρ c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem n hn) (slab sendM n hn) (slab recvM n hn) hsrc hdst) fun _ =>
                .op (.load oM (colRect o ho).toLoadRect hl₂) fun v =>
                .op (.load recvM (slabRect n hn).toLoadRect hl₃) fun r =>
                .op (.load oM (colRect o ho).toLoadRect hl₂') fun _ =>
                .op (.store oM (colRect o ho) (pv v r) Finset.univ hs₂ hm₂) k) Q) := by
  subst hon
  unfold recvState
  rw [todo_take n hn, done_put n hn]
  unfold recvTodo recvDone
  iintro ⟨#HR, ⟨%f, %hf, Ho⟩, ⟨⟨Hc, Hat⟩, Htodo⟩, Hdone, ⟨%W, HO⟩⟩ Hk
  ihave #HI := (inv_of m ρ K c (.inr (.inr ⟨n, hn⟩))) $$ HR
  iapply (Rounds.wp_wait_rest_token 𝒱₀ ER (sched m ρ) (c : Thread nD τ) none (κ := K (c, .inr (.inr ⟨n, hn⟩)))
      (wpE_waitDma2_eq 𝒱₀ (c : Thread nD τ) none Set.univ) (Set.mem_univ _) () (O := 0) (W := W) (R := 0) (m := 0) (T := ∅)
      (by rw [Nat.zero_add]; exact (expect_recv m ρ c n hn).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c n hn)) $$ Hpay
  unfold slabIs
  icases Hp with ⟨%fr, %hfr, Hr⟩
  imod (Rounds.cell_close ER (sched m ρ) (Set.mem_univ (K (c, .inr (.inr ⟨n, hn⟩)))) (fun h => h) (R := 0 + 1) (duties_later m ρ (recvCell c n hn))) $$ [Hat] with Hz
  · isplitr; · iexact HI
    iexact Hat
  iapply (wp_load_rect 𝒱₀ (c : Thread nD τ) none Set.univ (m := oM) (r := colRect (128 * n) (col_le hn)) (Finset.subset_univ _)) $$ Ho; iintro Ho
  iapply (wp_load_rect 𝒱₀ (c : Thread nD τ) none Set.univ (m := recvM) (r := slabRect n hn) (subset_of_eq (slab_set recvM n hn).symm)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := colRect (128 * n) (col_le hn)) (Mk := Finset.univ) (Finset.subset_univ _)) $$ Ho; iintro Ho
  iapply Hk
  isplitl [Ho]
  · iexists (colWrite oM f n hn (pv (colRead oM f n hn) ((recvM.access (slabRect n hn)).read (Elt F) fr)))
    isplitr
    · ipureintro
      intro i hi
      by_cases h : i = n
      · subst h
        rw [colRead_colWrite, hpv, if_pos (Nat.lt_succ_self _)]
        exact added_eq m ρ c i hi _ _ ((hf i hi).trans (if_neg (lt_irrefl _))) ((slab_load recvM i hi fr).trans hfr)
      · rw [colRead_colWrite_ne oM f n i hn hi h, hf i hi]
        by_cases h2 : i < n
        · rw [if_pos h2, if_pos (by omega)]
        · rw [if_neg h2, if_neg (by omega)]
    · iexact Ho
  isplitl [Htodo]; · iexact Htodo
  isplitl [Hr Hz Hdone]
  · isplitl [Hr Hz]
    · isplitl [Hr]
      · unfold slabAny; iexists fr; iexact Hr
      iexact Hz
    iexact Hdone
  iexists _; iexact HO

/-- Wait for send `n`. -/
theorem back_chunk (K : Dev nD × Key → ℕ) (c : Dev nD) (n : ℕ) (hn : n < 8)
    {hsrc : (slab recvM n hn).view.WordExact} {hdst : (slab sendM n hn).view.WordExact}
    {α : Type} {Q : α → sProp 𝕄} {k : PUnit → Prog (TpuEff nD τ sig (Elt F) Λ₀ .tc) α} :
    iprop(records m ρ K ∗ backState c n)
      ⊢ iprop((backState c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem n hn) (slab recvM n hn) (slab sendM n hn) hsrc hdst) k) Q) := by
  unfold backState
  rw [todo_take n hn, done_put n hn]
  unfold backTodo backDone
  iintro ⟨#HR, ⟨⟨Hc, Hat⟩, Htodo⟩, Hdone, ⟨%W, HO⟩⟩ Hk
  ihave #HI := (inv_of m ρ K c (.inr (.inl ⟨n, hn⟩))) $$ HR
  iapply (Rounds.wp_wait_rest_token 𝒱₀ ER (sched m ρ) (c : Thread nD τ) none (κ := K (c, .inr (.inl ⟨n, hn⟩)))
      (wpE_waitDma2_eq 𝒱₀ (c : Thread nD τ) none Set.univ) (Set.mem_univ _) () (O := 0) (W := W) (R := 0) (m := 0) (T := ∅)
      (by rw [Nat.zero_add]; exact (expect_send m ρ c n hn).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c n hn)) $$ Hpay
  imod (Rounds.cell_close ER (sched m ρ) (Set.mem_univ (K (c, .inr (.inl ⟨n, hn⟩)))) (fun h => h) (R := 0 + 1) (duties_later m ρ (sendCell c n hn))) $$ [Hat] with Hz
  · isplitr; · iexact HI
    iexact Hat
  iapply Hk
  isplitl [Htodo]; · iexact Htodo
  isplitl [Hp Hz Hdone]
  · isplitl [Hp Hz]
    · isplitl [Hp] <;> iassumption
    iexact Hdone
  iexists _; iexact HO

end Cert.Exchange

end
-- ==== Proof.Body.lean ====
/-
# The kernel body on one device

From what the launch deals a device to what it leaves: the body's phases, chunk by chunk, between the two barriers of
bookkeeping that cut the slab buffers into slabs and join them again. The output's contents are stated as one function of
the element's index.
-/
module

public import proofs.«01_k».proof.Proof.Steps
public import proofs.«01_k».proof.Proof.Gen.KernelIdeal.Points
public import Idealize.ShloMosaic.Lib.Ring.FamCut
public import Idealize.ShloMosaic.Lib.ValueIdxCore

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The result's contents -/

/-- A device's result: element `(r, 128 j + l)` is element `(r, l)` of column block `j`. -/
def outAt (c : Dev nD) : (cc0_stg2_0 : Ref sig .tc).ty.Contents (Elt F) := fun i : S1024x1024.Idx =>
  res m ρ c ((i 1).val / 128) (by have h : (i 1).val < 1024 := (i 1).isLt; omega)
    (ix2 (n0 := 1024) (n1 := 128) ⟨(i 0).val, (i 0).isLt⟩ ⟨(i 1).val % 128, Nat.mod_lt _ (by decide)⟩)

/-- Contents whose every column block is the result's are the result. -/
theorem eq_outAt (c : Dev nD) (f : (cc0_stg2_0 : Ref sig .tc).ty.Contents (Elt F))
    (hf : ∀ j (hj : j < 8), colRead oM f j hj = res m ρ c j hj) : f = outAt m ρ c := by
  funext i
  have h : ((i : S1024x1024.Idx) 1).val < 1024 := ((i : S1024x1024.Idx) 1).isLt
  have hj : ((i : S1024x1024.Idx) 1).val / 128 < 8 := by omega
  refine (read_eq_colRead oM f _ hj i
    (ix2 (n0 := 1024) (n1 := 128) ⟨((i : S1024x1024.Idx) 0).val, ((i : S1024x1024.Idx) 0).isLt⟩ ⟨((i : S1024x1024.Idx) 1).val % 128, Nat.mod_lt _ (by decide)⟩)
    rfl ?_).trans ?_
  · show ((i : S1024x1024.Idx) 1).val = 128 * (((i : S1024x1024.Idx) 1).val / 128) + ((i : S1024x1024.Idx) 1).val % 128
    omega
  · rw [hf]; rfl

/-! ## Cutting a buffer into its slabs -/

section Cut
variable (c : Dev nD) (M : Slabs)

/-- The elements of the eight slabs, one set each. -/
abbrev slabSets (j : Fin 8) : Finset (Idx (M.view.loc (c : Thread nD τ))) := (slab M j.val j.isLt).view.set

/-- What the slabs leave of the buffer. -/
def slabRest : sProp 𝕄 :=
  iprop(∃ f : Buf (Elt F) (M.view.loc (c : Thread nD τ)), M.view.loc (c : Thread nD τ) ↦[Ring.restOf (slabSets c M)]{fullShare} f)

theorem cut_slabs :
    (iprop(∃ f : Buf (Elt F) (M.view.loc (c : Thread nD τ)), M.view.loc (c : Thread nD τ) ↦{fullShare} f) : sProp 𝕄)
      ⊢ iprop((bigSep Finset.univ fun j : Fin 8 => slabAny c M j.val j.isLt) ∗ slabRest c M) :=
  Ring.fam_split_ex (slabSets c M) (fun j j' h => slab_disjoint M j j' h)

theorem join_slabs (f₀ : Buf (Elt F) (M.view.loc (c : Thread nD τ))) :
    iprop((bigSep Finset.univ fun j : Fin 8 => slabAny c M j.val j.isLt) ∗ slabRest c M)
      ⊢ (iprop(∃ f : Buf (Elt F) (M.view.loc (c : Thread nD τ)), M.view.loc (c : Thread nD τ) ↦{fullShare} f) : sProp 𝕄) :=
  Ring.fam_join (slabSets c M) (fun j j' h => slab_disjoint M j j' h) f₀

end Cut

/-! ## What a device starts from and ends with -/

/-- The exchange's ghost state device `c` starts from: the records; its positions at round 0 of its cells; the tokens of
the duties it pays: its peer's barrier, its own send cells, its peer's receive cells. -/
def ghost (K : Dev nD × Key → ℕ) (c : Dev nD) : sProp 𝕄 :=
  iprop(records m ρ K
    ∗ (atPos ER (barCell c) 0 ∅ 0 ∗ (bigSep Finset.univ fun j : Fin 8 => atPos ER (sendCell c j.val j.isLt) 0 ∅ 0)
        ∗ bigSep Finset.univ fun j : Fin 8 => atPos ER (recvCell c j.val j.isLt) 0 ∅ 0)
    ∗ dutyTok ER (barCell (peer c)) 0 () ∗ (bigSep Finset.univ fun j : Fin 8 => dutyTok ER (sendCell c j.val j.isLt) 0 ())
    ∗ bigSep Finset.univ fun j : Fin 8 => dutyTok ER (recvCell (peer c) j.val j.isLt) 0 ())

/-- The credits of its barrier wait and of its receive waits. -/
def startCred (c : Dev nD) : sProp 𝕄 :=
  iprop(cred (tallyAt (barCell c) () 1) ∗ bigSep Finset.univ fun j : Fin 8 => cred (tallyAt (recvCell c j.val j.isLt) () N))

def start (c : Dev nD) : sProp 𝕄 := iprop((∃ K, ghost m ρ K c) ∗ startCred c ∗ levAts L lv)

/-- A slab buffer, whole. -/
def scr (c : Dev nD) (M : Slabs) : sProp 𝕄 :=
  iprop(∃ f : Buf (Elt F) (M.view.loc (c : Thread nD τ)), M.view.loc (c : Thread nD τ) ↦{fullShare} f)

def Φ₀ (c : Dev nD) : sProp 𝕄 := iprop(start m ρ c ∗ scr c sendM ∗ scr c recvM)

/-- After the body: the slab buffers at some contents, every cell's counter at zero. -/
def Φ₁ (c : Dev nD) : sProp 𝕄 :=
  iprop(scr c sendM ∗ scr c recvM ∗ semVal (barCell c) 0
    ∗ (bigSep Finset.univ fun j : Fin 8 => semVal (sendCell c j.val j.isLt) 0) ∗ bigSep Finset.univ fun j : Fin 8 => semVal (recvCell c j.val j.isLt) 0)

theorem scr_cut (c : Dev nD) (M : Slabs) :
    scr (F := F) c M ⊢ iprop((bigSep Finset.univ fun j : Fin 8 => slabAny c M j.val j.isLt) ∗ slabRest c M) := by
  unfold scr; exact cut_slabs c M
theorem scr_join (c : Dev nD) (M : Slabs) (f₀ : Buf (Elt F) (M.view.loc (c : Thread nD τ))) :
    iprop((bigSep Finset.univ fun j : Fin 8 => slabAny c M j.val j.isLt) ∗ slabRest c M) ⊢ scr (F := F) c M := by
  unfold scr; exact join_slabs c M f₀

/-- A persistent fact beside a family, given to every member. -/
theorem with_each {I : Type} [Fintype I] [DecidableEq I] (R : sProp 𝕄) [BI.Persistent R] (Φ Ψ : I → sProp 𝕄)
    (h : ∀ i, iprop(R ∗ Φ i) ⊢ Ψ i) : iprop(R ∗ bigSep Finset.univ Φ) ⊢ bigSep Finset.univ Ψ := by
  have e : iprop((bigSep Finset.univ fun _ : I => R) ∗ bigSep Finset.univ Φ) ⊢ bigSep Finset.univ Ψ := by
    rw [← bigSep_sep']; exact bigSep_mono fun i _ => h i
  have d : R ⊢ bigSep Finset.univ fun _ : I => R := BI.bigSep_of_persistent Finset.univ R
  iintro ⟨#HR, H⟩
  iapply e
  isplitr
  · iapply d; iexact HR
  iexact H

/-- What device `c`'s signal hands its peer. -/
theorem barPay_intro (K : Dev nD × Key → ℕ) (c : Dev nD) :
    iprop(records m ρ K ∗ bigSep Finset.univ fun j : Fin 8 => slabAny c recvM j.val j.isLt) ⊢ barPay (peer c) := by
  unfold barPay
  rw [peer_peer]
  refine with_each _ _ _ fun j => ?_
  iintro ⟨#HR, H⟩
  isplitl [H]; · iexact H
  iapply (reached_of m ρ K c (.inr (.inr j))); iexact HR

/-- What one transfer takes, from its parts; -/
theorem sendTodo_one (c : Dev nD) (j : Fin 8) :
    iprop(slabAny c sendM j.val j.isLt ∗ (slabAny (peer c) recvM j.val j.isLt ∗ reached ER (recvCell (peer c) j.val j.isLt) 0)
        ∗ dutyTok ER (sendCell c j.val j.isLt) 0 () ∗ dutyTok ER (recvCell (peer c) j.val j.isLt) 0 ())
      ⊢ (sendTodo c j : sProp 𝕄) := by
  unfold sendTodo
  iintro ⟨H1, ⟨H2, H3⟩, H4, H5⟩
  isplitl [H1]; · iexact H1
  isplitl [H2]; · iexact H2
  isplitl [H4]; · iexact H4
  isplitl [H5]; · iexact H5
  iexact H3

/-- what the eight take, gathered. -/
theorem sendTodo_all (c : Dev nD) :
    iprop((bigSep Finset.univ fun j : Fin 8 => slabAny c sendM j.val j.isLt) ∗ barPay c
        ∗ (bigSep Finset.univ fun j : Fin 8 => dutyTok ER (sendCell c j.val j.isLt) 0 ())
        ∗ bigSep Finset.univ fun j : Fin 8 => dutyTok ER (recvCell (peer c) j.val j.isLt) 0 ())
      ⊢ (bigSep Finset.univ (sendTodo c) : sProp 𝕄) := by
  unfold barPay
  rw [← bigSep_sep', ← bigSep_sep', ← bigSep_sep']
  exact bigSep_mono fun j _ => sendTodo_one c j

theorem recvTodo_all (c : Dev nD) :
    iprop((bigSep Finset.univ fun j : Fin 8 => cred (tallyAt (recvCell c j.val j.isLt) () N))
        ∗ bigSep Finset.univ fun j : Fin 8 => atPos ER (recvCell c j.val j.isLt) 0 ∅ 0)
      ⊢ (bigSep Finset.univ (recvTodo c) : sProp 𝕄) := by
  rw [← bigSep_sep']; exact bigSep_mono fun j _ => by unfold recvTodo; exact Entails.refl _

theorem backTodo_all (c : Dev nD) :
    iprop((bigSep Finset.univ (sendDone c)) ∗ bigSep Finset.univ fun j : Fin 8 => atPos ER (sendCell c j.val j.isLt) 0 ∅ 0)
      ⊢ (bigSep Finset.univ (backTodo c) : sProp 𝕄) := by
  rw [← bigSep_sep']; exact bigSep_mono fun j _ => by unfold backTodo sendDone; exact Entails.refl _

theorem recvDone_all (c : Dev nD) :
    (bigSep Finset.univ (recvDone c) : sProp 𝕄)
      ⊢ iprop((bigSep Finset.univ fun j : Fin 8 => slabAny c recvM j.val j.isLt) ∗ bigSep Finset.univ fun j : Fin 8 => semVal (recvCell c j.val j.isLt) 0) := by
  rw [← bigSep_sep']; exact bigSep_mono fun j _ => by unfold recvDone; exact Entails.refl _

theorem backDone_all (c : Dev nD) :
    (bigSep Finset.univ (backDone c) : sProp 𝕄)
      ⊢ iprop((bigSep Finset.univ fun j : Fin 8 => slabAny c sendM j.val j.isLt) ∗ bigSep Finset.univ fun j : Fin 8 => semVal (sendCell c j.val j.isLt) 0) := by
  rw [← bigSep_sep']; exact bigSep_mono fun j _ => by unfold backDone; exact Entails.refl _

/-! ## Between the phases -/

theorem send_start (c : Dev nD) (f : Buf (Elt F) (oM.view.loc (c : Thread nD τ))) (W : Waits sig Unit) :
    iprop(oPts c f ∗ bPts m ρ c ∗ bigSep Finset.univ (sendTodo c) ∗ owes (c : Thread nD τ) (owing c 0) W) ⊢ sendState m ρ c 0 := by
  unfold sendState; rw [todo_zero, done_zero]
  iintro ⟨Ho, Hb, Ht, HO⟩
  isplitl [Ho]
  · iexists f; isplitr; · (ipureintro; intro i hi h; exact absurd h (Nat.not_lt_zero _))
    iexact Ho
  isplitl [Hb]; · iexact Hb
  isplitl [Ht]; · iexact Ht
  isplitr; · iempintro
  iexists W; iexact HO

theorem send_to_recv (c : Dev nD) :
    iprop(sendState m ρ c 8 ∗ bigSep Finset.univ (recvTodo c)) ⊢ iprop(recvState m ρ c 0 ∗ bPts m ρ c ∗ bigSep Finset.univ (sendDone c)) := by
  unfold sendState recvState; rw [todo_eight, done_eight, todo_zero, done_zero, owing_eight]
  iintro ⟨⟨⟨%f, %hf, Ho⟩, Hb, -, Hd, HO⟩, Ht⟩
  isplitl [Ho Ht HO]
  · isplitl [Ho]
    · iexists f; isplitr
      · ipureintro; intro i hi; rw [if_neg (Nat.not_lt_zero _)]; exact hf i hi hi
      iexact Ho
    isplitl [Ht]; · iexact Ht
    isplitr; · iempintro
    iexact HO
  isplitl [Hb] <;> iassumption

theorem recv_to_back (c : Dev nD) :
    iprop(recvState m ρ c 8 ∗ bigSep Finset.univ (backTodo c))
      ⊢ iprop(backState c 0 ∗ oPts c (outAt m ρ c) ∗ bigSep Finset.univ (recvDone c)) := by
  unfold recvState backState; rw [todo_eight, done_eight, todo_zero, done_zero]
  iintro ⟨⟨⟨%f, %hf, Ho⟩, -, Hd, HO⟩, Ht⟩
  have h : f = outAt m ρ c := eq_outAt m ρ c f fun j hj => (hf j hj).trans (if_pos hj)
  subst h
  isplitl [Ht HO]
  · isplitl [Ht]; · iexact Ht
    isplitr; · iempintro
    iexact HO
  isplitl [Ho] <;> iassumption

theorem back_end (c : Dev nD) :
    (backState c 8 : sProp 𝕄) ⊢ iprop((bigSep Finset.univ (backDone c)) ∗ ∃ W, owes (c : Thread nD τ) 0 W) := by
  unfold backState; rw [todo_eight, done_eight]
  iintro ⟨-, Hd, HO⟩
  isplitl [Hd] <;> iassumption

/-! ## The proof data of the pipeline around the body -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aOf m ρ c
    | ⟨1, _⟩ => bOf m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (aOf m ρ c) ∗ stg c cc0_stg1_0 (bOf m ρ c) ∗ stg c cc0_stg2_0 (outAt m ρ c))

/-- The first load reads the whole of the first operand's block. -/
theorem read_a (f : (cc0_stg0_0 : Ref sig .tc).ty.Contents (Elt F)) :
    aM.view.readAt (Elt F) (Rect.unit (s := S1024x512) ![0, 0] S1024x512.size inb_S1024x512_S1024x512_0_0).toLoadRect f = f :=
  Memref.readAt_unit_zero (Elt F) cc0_stg0_0 (funext fun a => by fin_cases a <;> rfl) _ f

set_option maxHeartbeats 4000000 in
set_option maxRecDepth 8000 in
/-- The body, from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body aM (Memref.isWhole_whole _) bM (Memref.isWhole_whole _) oM (Memref.isWhole_whole _)
            sendM (Memref.isWhole_whole _) recvM (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold bodyPre Φ₀ start ghost startCred
  iintro ⟨⟨⟨⟨⟨%K, #HR, ⟨HatB, HatS, HatV⟩, HtB, HtS, HtV⟩, ⟨HcB, HcV⟩, #Hlev⟩, Hs1, Hs2⟩,
    Ho, ⟨%d0, %g0, %hg0, Ha⟩, ⟨%d1, %g1, %hg1, Hb⟩, ⟨%d2, %g2, %hg2, Hout⟩⟩, Hk⟩
  have ha : g0 = aOf m ρ c := by rw [hg0]; unfold Dat.before; rw [if_pos (fetch0_0 t0_0)]; rfl
  have hb : g1 = bOf m ρ c := by rw [hg1]; unfold Dat.before; rw [if_pos (fetch0_1 t0_0)]; rfl
  subst ha
  subst hb
  unfold Dat.owesAt Pipeline.owesWithin
  icases Ho with ⟨%W, %hW, HO⟩
  rw [show (dats m ρ 0 c).owed t0_0.castSucc = O₀ c from rfl]
  simp only [dev1_eq c]
  ihave Hs1 := (scr_cut c sendM) $$ Hs1
  icases Hs1 with ⟨Hs1, Hrest1⟩
  ihave Hs2 := (scr_cut c recvM) $$ Hs2
  icases Hs2 with ⟨Hs2, Hrest2⟩
  -- the signal to the peer hands it the receive slabs
  unfold O₀
  iapply (Rounds.wp_signal 𝒱₀ ER (sched m ρ) (c : Thread nD τ) none (dst := (peer c : Thread nD τ)) (κ := K (peer c, .inl ()))
      (d := ()) (duty_bar m ρ (peer c)) ((amount_bar m ρ (peer c)).trans (by decide)) () (owing c 0) rfl) $$ [HO HtB Hs2]
  · isplitr; · iapply (inv_of m ρ K (peer c) (.inl ())); iexact HR
    isplitl [HO]; · iexact HO
    isplitl [HtB]; · iexact HtB
    isplitl [Hs2]
    · rw [payload_bar]; iapply (barPay_intro m ρ K c); isplitr; · iexact HR
      iexact Hs2
    iapply (reached_of m ρ K (peer c) (.inl ())); iexact HR
  iintro HO
  -- the wait on its own barrier brings the peer's receive slabs
  iapply (Rounds.wp_wait_rest_token 𝒱₀ ER (sched m ρ) (c : Thread nD τ) none (κ := K (c, .inl ()))
      (wpE_semWait_eq 𝒱₀ (c : Thread nD τ) none Set.univ) (Set.mem_univ _) () (O := owing c 0) (W := W) (R := 0) (m := 0) (T := ∅)
      (by rw [expect_bar]; decide)) $$ [HcB HO HatB]
  · isplitr; · iapply (inv_of m ρ K c (.inl ())); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  ihave #HIB := (inv_of m ρ K c (.inl ())) $$ HR
  imod (Rounds.cell_close ER (sched m ρ) (Set.mem_univ (K (c, .inl ()))) (fun h => h) (R := 0 + 1) (duties_later m ρ (barCell c))) $$ [HatB] with HzB
  · isplitr; · iexact HIB
    iexact HatB
  ihave Ht := (sendTodo_all (F := F) c) $$ [Hs1 Hp HtS HtV]
  · isplitl [Hs1]; · iexact Hs1
    isplitl [Hp]; · iexact Hp
    isplitl [HtS] <;> iassumption
  -- the first operand
  iapply (wp_load 𝒱₀ (c : Thread nD τ) none Set.univ (m := aM) (Finset.subset_univ _)) $$ Ha; iintro Ha
  rw [read_a]
  ihave HS := (send_start m ρ c g2 _) $$ [Hout Hb Ht HO]
  · isplitl [Hout]; · iexact Hout
    isplitl [Hb]; · iexact Hb
    isplitl [Ht] <;> iassumption
  -- the eight chunks multiplied and sent
  iapply (send_chunk m ρ K c _ (dev2_eq c) 0 (by decide) 0 (by decide) rfl _ (fun _ => rfl) _ (fun _ => rfl)) $$ [HS]
  · isplitr; · iexact HR
    iexact HS
  iintro HS
  iapply (send_chunk m ρ K c _ (dev3_eq c) 1 (by decide) 128 (by decide) rfl _ (fun _ => rfl) _ (fun _ => rfl)) $$ [HS]
  · isplitr; · iexact HR
    iexact HS
  iintro HS
  iapply (send_chunk m ρ K c _ (dev4_eq c) 2 (by decide) 256 (by decide) rfl _ (fun _ => rfl) _ (fun _ => rfl)) $$ [HS]
  · isplitr; · iexact HR
    iexact HS
  iintro HS
  iapply (send_chunk m ρ K c _ (dev5_eq c) 3 (by decide) 384 (by decide) rfl _ (fun _ => rfl) _ (fun _ => rfl)) $$ [HS]
  · isplitr; · iexact HR
    iexact HS
  iintro HS
  iapply (send_chunk m ρ K c _ (dev6_eq c) 4 (by decide) 512 (by decide) rfl _ (fun _ => rfl) _ (fun _ => rfl)) $$ [HS]
  · isplitr; · iexact HR
    iexact HS
  iintro HS
  iapply (send_chunk m ρ K c _ (dev7_eq c) 5 (by decide) 640 (by decide) rfl _ (fun _ => rfl) _ (fun _ => rfl)) $$ [HS]
  · isplitr; · iexact HR
    iexact HS
  iintro HS
  iapply (send_chunk m ρ K c _ (dev8_eq c) 6 (by decide) 768 (by decide) rfl _ (fun _ => rfl) _ (fun _ => rfl)) $$ [HS]
  · isplitr; · iexact HR
    iexact HS
  iintro HS
  iapply (send_chunk m ρ K c _ (dev9_eq c) 7 (by decide) 896 (by decide) rfl _ (fun _ => rfl) _ (fun _ => rfl)) $$ [HS]
  · isplitr; · iexact HR
    iexact HS
  iintro HS
  ihave Hr := (recvTodo_all (F := F) c) $$ [HcV HatV]
  · isplitl [HcV] <;> iassumption
  ihave H := (send_to_recv m ρ c) $$ [HS Hr]
  · isplitl [HS] <;> iassumption
  icases H with ⟨HS, Hb, HcS⟩
  -- the eight chunks received and added
  iapply (recv_chunk m ρ K c 0 (by decide) 0 (by decide) rfl _ (fun _ _ => rfl)) $$ [HS]
  · isplitr; · iexact HR
    iexact HS
  iintro HS
  iapply (recv_chunk m ρ K c 1 (by decide) 128 (by decide) rfl _ (fun _ _ => rfl)) $$ [HS]
  · isplitr; · iexact HR
    iexact HS
  iintro HS
  iapply (recv_chunk m ρ K c 2 (by decide) 256 (by decide) rfl _ (fun _ _ => rfl)) $$ [HS]
  · isplitr; · iexact HR
    iexact HS
  iintro HS
  iapply (recv_chunk m ρ K c 3 (by decide) 384 (by decide) rfl _ (fun _ _ => rfl)) $$ [HS]
  · isplitr; · iexact HR
    iexact HS
  iintro HS
  iapply (recv_chunk m ρ K c 4 (by decide) 512 (by decide) rfl _ (fun _ _ => rfl)) $$ [HS]
  · isplitr; · iexact HR
    iexact HS
  iintro HS
  iapply (recv_chunk m ρ K c 5 (by decide) 640 (by decide) rfl _ (fun _ _ => rfl)) $$ [HS]
  · isplitr; · iexact HR
    iexact HS
  iintro HS
  iapply (recv_chunk m ρ K c 6 (by decide) 768 (by decide) rfl _ (fun _ _ => rfl)) $$ [HS]
  · isplitr; · iexact HR
    iexact HS
  iintro HS
  iapply (recv_chunk m ρ K c 7 (by decide) 896 (by decide) rfl _ (fun _ _ => rfl)) $$ [HS]
  · isplitr; · iexact HR
    iexact HS
  iintro HS
  ihave Ht := (backTodo_all (F := F) c) $$ [HcS HatS]
  · isplitl [HcS] <;> iassumption
  ihave H := (recv_to_back m ρ c) $$ [HS Ht]
  · isplitl [HS] <;> iassumption
  icases H with ⟨HS, Hout, Hrd⟩
  -- the eight sends waited for
  iapply (back_chunk m ρ K c 0 (by decide)) $$ [HS]
  · isplitr; · iexact HR
    iexact HS
  iintro HS
  iapply (back_chunk m ρ K c 1 (by decide)) $$ [HS]
  · isplitr; · iexact HR
    iexact HS
  iintro HS
  iapply (back_chunk m ρ K c 2 (by decide)) $$ [HS]
  · isplitr; · iexact HR
    iexact HS
  iintro HS
  iapply (back_chunk m ρ K c 3 (by decide)) $$ [HS]
  · isplitr; · iexact HR
    iexact HS
  iintro HS
  iapply (back_chunk m ρ K c 4 (by decide)) $$ [HS]
  · isplitr; · iexact HR
    iexact HS
  iintro HS
  iapply (back_chunk m ρ K c 5 (by decide)) $$ [HS]
  · isplitr; · iexact HR
    iexact HS
  iintro HS
  iapply (back_chunk m ρ K c 6 (by decide)) $$ [HS]
  · isplitr; · iexact HR
    iexact HS
  iintro HS
  iapply (back_chunk m ρ K c 7 (by decide)) $$ [HS]
  · isplitr; · iexact HR
    iexact HS
  iintro HS
  ihave H := (back_end (F := F) c) $$ HS
  icases H with ⟨Hsd, %W', HO⟩
  ihave H := (recvDone_all (F := F) c) $$ Hrd
  icases H with ⟨Hs2, HzV⟩
  ihave H := (backDone_all (F := F) c) $$ Hsd
  icases H with ⟨Hs1, HzS⟩
  rw [wp_ret]; imodintro
  iapply Hk
  unfold bodyPost Φ₁ Dat.owesAt Pipeline.owesWithin
  rw [show (dats m ρ 0 c).owed t0_0.succ = 0 from rfl]
  isplitl [Hs1 Hrest1 Hs2 Hrest2 HzB HzS HzV]
  · isplitl [Hs1 Hrest1]
    · iapply (scr_join c sendM ((s₀ m ρ).mem _)); isplitl [Hs1] <;> iassumption
    isplitl [Hs2 Hrest2]
    · iapply (scr_join c recvM ((s₀ m ρ).mem _)); isplitl [Hs2] <;> iassumption
    isplitl [HzB]; · iexact HzB
    isplitl [HzS] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

end Cert.Exchange

end
-- ==== Proof.Launch.lean ====
/-
# The launch

From the body's contract on one device to the run of the whole program on the mesh: the semaphores' ghost state and the
duty tokens as minted, the tokens dealt between peers, the credits a device is owed, and the run itself.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body aM (Memref.isWhole_whole _) bM (Memref.isWhole_whole _) oM (Memref.isWhole_whole _)
      sendM (Memref.isWhole_whole _) recvM (Memref.isWhole_whole _) cc0_scratch2 cc0_scratch3) (fun _ => bodyPost m ρ c)
  iintro H
  iapply (sound_body m ρ c fun _ => bodyPost m ρ c)
  isplitl [H]; · iexact H
  iintro H; iexact H

/-! ## The semaphores and the tokens, as minted -/

/-- The kernel's own sixteen semaphores. -/
abbrev osem : Fin 8 ⊕ Fin 8 → SemLoc sig := fun k => csem (.inr k)

/-- The staging semaphores are numbered below the exchange's. -/
theorem stage_sem_lt : ∀ (w : Fin 3) (s : Fin (spec0 w).nbuf), ((spec0 w).sem s).val < 3 := by decide

theorem key_ne_stage (k : Fin 8 ⊕ Fin 8) (q : DmaSem sig) (hq : q.val < 3) : csem (.inr k) ≠ .dma q := fun h => by
  have h1 := congrArg locNo h
  rw [locNo_csem] at h1
  have h2 : locNo (.dma q) = q.val + 1 := rfl
  rw [h2] at h1
  rcases k with j | j
  · have h3 : keyNo (.inr (.inl j)) = 3 + j.val + 1 := rfl
    omega
  · have h3 : keyNo (.inr (.inr j)) = 11 + j.val + 1 := rfl
    omega

theorem keyOf_stage (q : DmaSem sig) (hq : q.val < 3) : keyOf (.dma q) = none := by
  unfold keyOf
  refine dif_neg ?_
  rintro ⟨k, hk⟩
  rcases k with u | k
  · exact absurd hk (by intro h; cases h)
  · exact key_ne_stage k q hq hk

theorem ownSemFacts : Pipeline.OwnSemFacts cfg0.spec osem where
  isScoped k := by rcases k with j | j <;> (revert j; decide)
  inj k k' h := Sum.inr_injective (csem_injective h)
  disj k w s := key_ne_stage k _ (stage_sem_lt w s)

theorem share_eq (c : Dev nD) (w : Fin cfg0.W) : (dats m ρ 0 c).share w = fullShare := by unfold Dat.share; split <;> rfl

theorem cell_inj {c c' : Dev nD} {k k' : Key} (h : cell c k = cell c' k') : c = c' ∧ k = k' :=
  ⟨congrArg (fun g : GSem nD τ sig => g.1.1) h, csem_injective (congrArg Prod.snd h)⟩

/-- A cell for each device and key. -/
def cells : Dev nD × Key ↪ GSem nD τ sig :=
  ⟨fun ck => cell ck.1 ck.2, fun a b h => Prod.ext (cell_inj h).1 (cell_inj h).2⟩
/-- One duty for each cell. -/
def duties : Dev nD × Key ↪ GSem nD τ sig × ℕ × Unit :=
  ⟨fun ck => (cell ck.1 ck.2, 0, ()), fun a b h => cells.injective (congrArg Prod.fst h)⟩

def u₀ : UU :=
  (initOf (Pipeline.cells cfgs cellOf_inj) (Pipeline.launchToks cfgs cellOf_inj), initOf (Finset.univ.map cells) (Finset.univ.map duties))

/-- What a device is dealt first: its cells' round states, its positions, and the tokens of its own cells' duties. -/
def G (c : Dev nD) : sProp 𝕄 :=
  iprop((bigSep Finset.univ fun k : Key => roundState ER (sched m ρ) (cell c k) 0)
    ∗ (bigSep Finset.univ fun k : Key => atPos ER (cell c k) 0 ∅ 0) ∗ (bigSep Finset.univ fun k : Key => reached ER (cell c k) 0)
    ∗ bigSep Finset.univ fun k : Key => dutyTok ER (cell c k) 0 ())

/-- What it holds once the invariants stand and the tokens are with their payers. -/
def G' (c : Dev nD) : sProp 𝕄 := iprop(∃ K, ghost m ρ K c)

theorem fund_exchange : BI.own (ER (initOf (Finset.univ.map cells) (Finset.univ.map duties))) ⊢ (|==> bigSep Finset.univ (G m ρ) : sProp 𝕄) := by
  have hC (Φ : GSem nD τ sig → sProp 𝕄) : bigSep (Finset.univ.map cells) Φ
      = bigSep Finset.univ fun c : Dev nD => bigSep Finset.univ fun k : Key => Φ (cell c k) := by
    rw [bigSep_map, bigSep_univ_prod]; rfl
  have hT : bigSep (Finset.univ.map duties) (fun x => (dutyTok ER x.1 x.2.1 x.2.2 : sProp 𝕄))
      = bigSep Finset.univ fun c : Dev nD => bigSep Finset.univ fun k : Key => dutyTok ER (cell c k) 0 () := by
    rw [bigSep_map, bigSep_univ_prod]; rfl
  iintro HX
  imod (Rounds.fund ER (sched m ρ) (Finset.univ.map cells) (Finset.univ.map duties)) $$ HX with ⟨Hst, Hr, Hat, Htok⟩
  imodintro
  ihave Hst := (Entails.of_eq (hC fun g => roundState ER (sched m ρ) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- The kernel's own semaphores at zero are its send and receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal (sendCell c j.val j.isLt) 0) ∗ bigSep Finset.univ fun j : Fin 8 => semVal (recvCell c j.val j.isLt) 0) := by
  unfold Pipeline.ownSems0; rw [BI.bigSep_univ_sum]; rfl
/-- the barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over the keys is its barrier member and its two families over the chunks. -/
theorem bigSep_key (Φ : Key → sProp 𝕄) : bigSep Finset.univ Φ
    = iprop(Φ (.inl ()) ∗ (bigSep Finset.univ fun j : Fin 8 => Φ (.inr (.inl j))) ∗ bigSep Finset.univ fun j : Fin 8 => Φ (.inr (.inr j))) := by
  rw [BI.bigSep_univ_sum, BI.bigSep_univ_sum, show (Finset.univ : Finset Unit) = {()} from rfl, bigSep_singleton]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cell c k) 0 : sProp 𝕄) := by
  rw [ownSems0_eq, unscopedSems0_eq, bigSep_key]
  iintro ⟨⟨HS, HV⟩, HB⟩
  isplitl [HB]; · iexact HB
  isplitl [HS]; · iexact HS
  iexact HV

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (sched m ρ) κ (cell c k)))
          ∗ (bigSep Finset.univ fun k : Key => atPos ER (cell c k) 0 ∅ 0) ∗ (bigSep Finset.univ fun k : Key => reached ER (cell c k) 0)
          ∗ bigSep Finset.univ fun k : Key => dutyTok ER (cell c k) 0 ()) := by
  have alloc : iprop((bigSep Finset.univ fun k : Key => semVal (cell c k) 0) ∗ bigSep Finset.univ fun k : Key => roundState ER (sched m ρ) (cell c k) 0)
      ⊢ (|={Set.univ}=> bigSep Finset.univ fun k : Key => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  unfold G
  iintro ⟨Hos, Hus, Hst, Hrest⟩
  ihave Hv := (sems_eq (F := F) c) $$ [Hos Hus]
  · isplitl [Hos] <;> iassumption
  imod alloc $$ [Hv Hst] with Hinv
  · isplitl [Hv] <;> iassumption
  imodintro
  isplitl [Hinv] <;> iassumption

/-! ## The tokens dealt to their payers -/

/-- The tokens of the duties device `c` pays. -/
def payToks (c : Dev nD) : sProp 𝕄 :=
  iprop(dutyTok ER (barCell (peer c)) 0 () ∗ (bigSep Finset.univ fun j : Fin 8 => dutyTok ER (sendCell c j.val j.isLt) 0 ())
    ∗ bigSep Finset.univ fun j : Fin 8 => dutyTok ER (recvCell (peer c) j.val j.isLt) 0 ())

/-- Barrier and receive tokens go to the peer; send tokens stay. -/
theorem toks_dealt : (bigSep Finset.univ fun c : Dev nD => bigSep Finset.univ fun k : Key => dutyTok ER (cell c k) 0 () : sProp 𝕄)
    ⊢ bigSep Finset.univ fun c : Dev nD => payToks c := by
  simp only [bigSep_key]
  unfold payToks
  rw [bigSep_sep', bigSep_sep', bigSep_sep', bigSep_sep',
    bigSep_univ_equiv swap (fun c : Dev nD => (dutyTok ER (cell c (.inl ())) 0 () : sProp 𝕄)),
    bigSep_univ_equiv swap (fun c : Dev nD => (bigSep Finset.univ fun j : Fin 8 => dutyTok ER (cell c (.inr (.inr j))) 0 () : sProp 𝕄))]
  exact Entails.refl _

/-- A device's positions and the tokens it pays with. -/
def own (c : Dev nD) : sProp 𝕄 := iprop((bigSep Finset.univ fun k : Key => atPos ER (cell c k) 0 ∅ 0) ∗ payToks c)

theorem ghost_intro (K : Dev nD × Key → ℕ) (c : Dev nD) : iprop(records m ρ K ∗ own c) ⊢ G' m ρ c := by
  unfold own payToks G' ghost
  rw [bigSep_key]
  iintro ⟨#HR, Hat, Htok⟩
  iexists K
  isplitr; · iexact HR
  isplitl [Hat]; · iexact Hat
  iexact Htok

theorem regroup :
    (bigSep Finset.univ fun c : Dev nD => iprop((bigSep Finset.univ fun k : Key => iprop(∃ κ : ℕ, cellInv ER (sched m ρ) κ (cell c k)))
          ∗ (bigSep Finset.univ fun k : Key => atPos ER (cell c k) 0 ∅ 0) ∗ (bigSep Finset.univ fun k : Key => reached ER (cell c k) 0)
          ∗ bigSep Finset.univ fun k : Key => dutyTok ER (cell c k) 0 ()) : sProp 𝕄)
      ⊢ bigSep Finset.univ (G' m ρ) := by
  rw [bigSep_sep', bigSep_sep', bigSep_sep', ← bigSep_univ_prod (fun ck : Dev nD × Key => iprop(∃ κ : ℕ, cellInv ER (sched m ρ) κ (cell ck.1 ck.2))),
    ← bigSep_univ_prod (fun ck : Dev nD × Key => (reached ER (cell ck.1 ck.2) 0 : sProp 𝕄))]
  iintro ⟨HI, Hat, #HR, Htok⟩
  ihave HK := (BI.bigSep_exists_pi Finset.univ (fun (ck : Dev nD × Key) (κ : ℕ) => (cellInv ER (sched m ρ) κ (cell ck.1 ck.2) : sProp 𝕄))) $$ HI
  icases HK with ⟨%K, #HI⟩
  ihave Htk := (toks_dealt (F := F)) $$ Htok
  iapply (with_each (records m ρ K) own (G' m ρ) fun c => ghost_intro m ρ K c)
  isplitr
  · unfold records; isplitl; · iexact HI
    iexact HR
  unfold own
  rw [bigSep_sep']
  isplitl [Hat] <;> iassumption

/-- Every device's semaphores and first deal, made into what each starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem owing_recv (d c : Dev nD) (j : Fin 8) : owing d 0 (cell c (.inr (.inr j))) () = if d = peer c then N else 0 := by
  unfold owing
  rw [Finset.sum_apply, Finsupp.finset_sum_apply, Finset.filter_true_of_mem (fun _ _ => Nat.zero_le _), Finset.sum_eq_single j]
  · rw [tallyAt_apply]
    by_cases h : d = peer c
    · subst h; rw [peer_peer, if_pos ⟨rfl, rfl⟩, if_pos rfl]
    · rw [if_neg h, if_neg]
      rintro ⟨h1, -⟩
      have h2 : c = peer d := (cell_inj (k := .inr (.inr j)) (k' := .inr (.inr j)) h1).1
      exact h (by rw [h2, peer_peer])
  · intro i _ hi
    rw [tallyAt_apply, if_neg]
    rintro ⟨h1, -⟩
    have h2 := (cell_inj (k := .inr (.inr j)) (k' := .inr (.inr i)) h1).2
    exact hi (Sum.inr_injective (Sum.inr_injective h2)).symm
  · intro h; exact absurd (Finset.mem_univ _) h

theorem owing_bar (d c : Dev nD) : owing d 0 (cell c (.inl ())) () = 0 := by
  by_contra h
  obtain ⟨j, hj⟩ := owing_pos (Nat.pos_of_ne_zero h)
  exact absurd (cell_inj hj).2 (by intro h; cases h)

/-- The cells others pay: the barrier, and the eight receive cells; what each is paid. -/
abbrev inKey : Unit ⊕ Fin 8 → Key := Sum.map id Sum.inr
abbrev inAmt : Unit ⊕ Fin 8 → ℕ := Sum.elim (fun _ => 1) (fun _ => N)

theorem owed_in (d c : Dev nD) (k : Unit ⊕ Fin 8) : O₀ d (cell c (inKey k)) () = if d = peer c then inAmt k else 0 := by
  unfold O₀
  rw [Pi.add_apply, Finsupp.add_apply, tallyAt_apply]
  rcases k with u | j
  · show owing d 0 (cell c (.inl ())) () + _ = _
    rw [owing_bar, Nat.zero_add]
    by_cases h : d = peer c
    · subst h; rw [peer_peer, if_pos ⟨rfl, rfl⟩, if_pos rfl]; rfl
    · rw [if_neg h, if_neg]
      rintro ⟨h1, -⟩
      have h2 : c = peer d := (cell_inj (k := .inl ()) (k' := .inl ()) h1).1
      exact h (by rw [h2, peer_peer])
  · show owing d 0 (cell c (.inr (.inr j))) () + _ = _
    have hne : ¬ (cell c (.inr (.inr j)) = barCell (peer d) ∧ () = ()) := fun h =>
      absurd (cell_inj (k := .inr (.inr j)) (k' := .inl ()) h.1).2 (by intro h; cases h)
    rw [owing_recv]
    exact (congrArg _ (if_neg hne)).trans (Nat.add_zero _)

theorem launch_in (c : Dev nD) (k : Unit ⊕ Fin 8) :
    tallyOn (cell c (inKey k)) (launchCredit (Pipeline.owing O₀) 0 (cell c (inKey k))) = (tallyAt (cell c (inKey k)) () (inAmt k) : CellTallies nD τ sig Unit) := by
  unfold tallyAt; refine congrArg _ (Finsupp.ext fun u => ?_); cases u
  rw [Pipeline.launchCredit_owing, Finsupp.single_eq_same, Finset.sum_congr rfl fun d _ => owed_in d c k,
    Finset.sum_ite_eq' Finset.univ (peer c) fun _ => inAmt k, if_pos (Finset.mem_univ _)]

/-- The semaphores of those cells. -/
def inSem : Unit ⊕ Fin 8 ↪ SemLoc sig :=
  ⟨fun k => csem (inKey k), fun a b h => Function.Injective.sumMap Function.injective_id Sum.inr_injective (csem_injective h)⟩

/-- What a device's cells are owed at launch: the credits its waits spend. -/
theorem creds (c : Dev nD) : (Pipeline.launchCred O₀ c : sProp 𝕄) ⊢ startCred c := by
  have h1 : (Pipeline.launchCred O₀ c : sProp 𝕄)
      ⊢ bigSep (Finset.univ.map inSem) fun sm => cred (tallyOn ((c : Thread nD τ), sm) (launchCredit (Pipeline.owing O₀) 0 ((c : Thread nD τ), sm))) := by
    unfold Pipeline.launchCred; exact bigSep_subset (Finset.subset_univ _)
  have h2 : (bigSep (Finset.univ.map inSem) fun sm => cred (tallyOn ((c : Thread nD τ), sm) (launchCredit (Pipeline.owing O₀) 0 ((c : Thread nD τ), sm))) : sProp 𝕄)
      = bigSep Finset.univ fun k : Unit ⊕ Fin 8 => cred (tallyAt (cell c (inKey k)) () (inAmt k)) := by
    rw [bigSep_map]; exact bigSep_congr fun k _ => congrArg cred (launch_in c k)
  refine h1.trans ((Entails.of_eq h2).trans (Entails.of_eq ?_))
  rw [BI.bigSep_univ_sum, show (Finset.univ : Finset Unit) = {()} from rfl, bigSep_singleton]; rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, H1, H2⟩
  isplitl [Hs]; · iexact Hs
  isplitl [H1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨H1, H2, HzB, HzS, HzV⟩
  isplitl [HzB]; · iexact HzB
  isplitl [HzS HzV]
  · isplitl [HzS] <;> iassumption
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_other c _ (keyOf_stage _ (stage_sem_lt w s)) _ (by
      rcases t with ⟨_ | _, ht⟩
      · exact Or.inl rfl
      · exact Or.inr rfl)

/-! ## The run -/

/-- The contents of window `w`'s array after the run. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution on the mesh ends, with each
device's arrays at the computed contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold after the run what they held. -/
theorem final_a (c : Dev nD) : finalA m ρ c (0 : Fin 3) = m ((c : Thread nD τ).loc main_arg0) :=
  (dats (F := F) m ρ 0 c).arrAt_in (0 : Fin 3) rfl _
theorem final_b (c : Dev nD) : finalA m ρ c (1 : Fin 3) = m ((c : Thread nD τ).loc main_arg1) :=
  (dats (F := F) m ρ 0 c).arrAt_in (1 : Fin 3) rfl _

end Cert.Exchange

end
-- ==== Proof.Value.lean ====
/-
# What the arrays hold, over the extended reals

The contents the run leaves, read element by element at the ideal values: a column block of a device's partial product is
the sum of 512 products, and a device's result is its own such sum plus its peer's.
-/
module

public import proofs.«01_k».proof.Proof.Launch
public import Idealize.ShloMosaic.Lib.MatmulPlain

@[expose] public section

noncomputable section

namespace Cert.Exchange

open Cert.KernelIdeal Cert.KernelIdeal.Gen
open Idealize.ShloMosaic Idealize.ShloMosaic.TcCoe Idealize.ShloMosaic.ValueIdx Idealize.SL.Sem
open scoped BigOperators

section Blocks

variable {F : FTy → Type} [FloatOps F]
variable (m : (ℓ : Loc nD τ sig) → Buf (Elt F) ℓ) (ρ : Dev nD → PrngReg)

/-- The one block of the first operand is its whole array; -/
theorem aOf_eq (c : Dev nD) : aOf m ρ c = m ((c : Thread nD τ).loc main_arg0) := by
  funext i
  show m ((c : Thread nD τ).loc main_arg0) _ = m ((c : Thread nD τ).loc main_arg0) i
  refine congrArg _ (Shape.idx_ext₂ ?_ ?_)
  · show 0 * 1024 + 1 * (i 0).val = (i 0).val; omega
  · show 0 * 512 + 1 * (i 1).val = (i 1).val; omega

/-- so is that of the second. -/
theorem bOf_eq (c : Dev nD) : bOf m ρ c = m ((c : Thread nD τ).loc main_arg1) := by
  funext i
  show m ((c : Thread nD τ).loc main_arg1) _ = m ((c : Thread nD τ).loc main_arg1) i
  refine congrArg _ (Shape.idx_ext₂ ?_ ?_)
  · show 0 * 512 + 1 * (i 0).val = (i 0).val; omega
  · show 0 * 1024 + 1 * (i 1).val = (i 1).val; omega

/-- The result array's one block holds after the run what the body left in its staging buffer. -/
theorem final_block (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- That block being the whole array, the result array holds it. -/
theorem final_out (c : Dev nD) : finalA m ρ c (2 : Fin 3) = outAt m ρ c := by
  rw [← final_block]
  funext i
  show _ = finalA m ρ c (2 : Fin 3) _
  refine congrArg _ (Shape.idx_ext₂ ?_ ?_)
  · show (i 0).val = 0 * 1024 + 1 * (i 0).val; omega
  · show (i 1).val = 0 * 1024 + 1 * (i 1).val; omega

/-- Element `(k, l)` of the second operand's column block `j` is element `(k, 128 j + l)` of the operand. -/
theorem bCols_apply (c : Dev nD) (j : ℕ) (hj : j < 8) (k : Fin 512) (l : Fin 128) (q : Fin 1024) (hq : q.val = 128 * j + l.val) :
    bCols m ρ c j hj (ix2 k l) = m ((c : Thread nD τ).loc main_arg1) (ix2 k q) := by
  rw [← bOf_eq m ρ c]
  show bOf m ρ c _ = _
  refine congrArg _ (Shape.idx_ext₂ ?_ ?_)
  · show 0 + 1 * k.val = k.val; omega
  · show 128 * j + 1 * l.val = q.val; omega

end Blocks

variable (m : (ℓ : Loc nD τ sig) → Buf (Elt Ideal) ℓ) (ρ : Dev nD → PrngReg)

/-- The operands device `c` holds, as matrices of extended reals. -/
def matA (c : Dev nD) (r : Fin 1024) (k : Fin 512) : EReal := m ((c : Thread nD τ).loc main_arg0) (ix2 r k)
def matB (c : Dev nD) (k : Fin 512) (q : Fin 1024) : EReal := m ((c : Thread nD τ).loc main_arg1) (ix2 k q)

/-- Element `(r, l)` of column block `j` of a device's partial product. -/
theorem part_apply (c : Dev nD) (j : ℕ) (hj : j < 8) (r : Fin 1024) (l : Fin 128) (q : Fin 1024) (hq : q.val = 128 * j + l.val) :
    part m ρ c j hj (ix2 r l) = ∑ k : Fin 512, matA m c r k * matB m c k q := by
  unfold part k0_pay4 k0_pay1
  simp only [shapeCast_self, aOf_eq]
  refine (Ideal.matmul_plain_apply none _ _ _ r l).trans ?_
  rw [show (constant S1024x128 .f32 0x00000000#32 : FVec Ideal S1024x128 .f32) (ix2 r l) = 0 from Ideal.ofBits_zero_f32, zero_add]
  exact Finset.sum_congr rfl fun k _ => congrArg (matA m c r k * ·) (bCols_apply m ρ c j hj k l q hq)

/-- Element `(r, q)` of a device's result: its own sum of products and its peer's. No rounding is left in what was sent. -/
theorem outAt_apply (c : Dev nD) (r q : Fin 1024) :
    outAt m ρ c (ix2 r q)
      = (∑ k : Fin 512, matA m c r k * matB m c k q) + ∑ k : Fin 512, matA m (peer c) r k * matB m (peer c) k q := by
  have hq : q.val / 128 < 8 := by omega
  have e : q.val = 128 * (q.val / 128) + q.val % 128 := by omega
  exact congrArg₂ (· + ·)
    (part_apply m ρ c (q.val / 128) hq r ⟨q.val % 128, Nat.mod_lt _ (by decide)⟩ q e)
    (part_apply m ρ (peer c) (q.val / 128) hq r ⟨q.val % 128, Nat.mod_lt _ (by decide)⟩ q e)

end Cert.Exchange

end
-- ==== Proof.Product.lean ====
/-
# The reference, and the equation

The reference's product, read element by element, is a sum of 1024 products. Its two halves are the sums the two devices
of a mesh row compute, so each of them ends with its row block of the product.
-/
module

public import proofs.«01_k».proof.Proof.Value
public import proofs.«01_k».proof.Proof.Gen.ReferenceIdeal.Run
public import Idealize.ShloMosaic.Lib.StackMember
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx Idealize.SL.Sem
open scoped BigOperators

/-- The reference's value: the product of the whole matrices, rounded to bf16 and widened again. -/
def whole (A : FVec Ideal ⟨2, ![2048, 1024]⟩ .bf16) (B : FVec Ideal ⟨2, ![1024, 1024]⟩ .bf16) : FVec Ideal ⟨2, ![2048, 1024]⟩ .f32 :=
  extf .f32
    (truncf .bf16 (Host.dotGeneral Cert.ReferenceIdeal.dot_S2048x1024_S1024x1024_S2048x1024_1_0_0_1_n_n none A B : FVec Ideal ⟨2, ![2048, 1024]⟩ .f32)
      bitsLt_bf16_f32)
    bitsLt_bf16_f32

/-- An element of it: the two casts are the identity here. -/
theorem whole_apply (A : FVec Ideal ⟨2, ![2048, 1024]⟩ .bf16) (B : FVec Ideal ⟨2, ![1024, 1024]⟩ .bf16) (r : Fin 2048) (q : Fin 1024) :
    whole A B (ix2 r q) = ∑ k : Fin 1024, A (ix2 r k) * B (ix2 k q) :=
  StackMember.dotGeneral_plain_apply none A B r q

/-- A sum of 1024 terms is the sum of the half `y` of them and of the other half. -/
theorem sum_halves (f : Fin 1024 → EReal) (y : ℕ) (hy : y < 2) :
    ∑ k : Fin 1024, f k
      = (∑ k : Fin 512, f ⟨512 * y + k.val, by omega⟩) + ∑ k : Fin 512, f ⟨512 * (1 - y) + k.val, by omega⟩ := by
  have h : ∑ k : Fin 1024, f k = (∑ k : Fin 512, f ⟨k.val, by omega⟩) + ∑ k : Fin 512, f ⟨512 + k.val, by omega⟩ :=
    Fin.sum_univ_add (a := 512) (b := 512) f
  obtain rfl | rfl : y = 0 ∨ y = 1 := by omega
  · refine h.trans (congrArg (· + _) (Finset.sum_congr rfl fun k _ => congrArg f (Fin.ext ?_)))
    show k.val = 512 * 0 + k.val; omega
  · refine (h.trans (add_comm _ _)).trans (congrArg (_ + ·) (Finset.sum_congr rfl fun k _ => congrArg f (Fin.ext ?_)))
    show k.val = 512 * (1 - 1) + k.val; omega

variable (m : (ℓ : Loc nD τ sig) → Buf (Elt Ideal) ℓ) (ρ : Dev nD → PrngReg)
variable (A : FVec Ideal ⟨2, ![2048, 1024]⟩ .bf16) (B : FVec Ideal ⟨2, ![1024, 1024]⟩ .bf16)

/-- Every device holds its block of the two whole operands. -/
def Placed : Prop := ∀ c : Dev nD,
  m ((c : Thread nD τ).loc main_arg0) = Layout.blockN ⟨2, ![1024, 512]⟩ ⟨2, ![2048, 1024]⟩ (Layout.meshBlock [2, 2] ![[0], [1]] c) A
  ∧ m ((c : Thread nD τ).loc main_arg1) = Layout.blockN ⟨2, ![512, 1024]⟩ ⟨2, ![1024, 1024]⟩ (Layout.meshBlock [2, 2] ![[1], []] c) B

/-- Device `c`'s coordinates on the mesh. -/
theorem coords (c : Dev nD) : Layout.meshLin [2, 2] c.val [0] = c.val / 2 ∧ Layout.meshLin [2, 2] c.val [1] = c.val % 2 := by
  revert c; decide

theorem peer_coords (c : Dev nD) : (peer c).val / 2 = c.val / 2 ∧ (peer c).val % 2 = 1 - c.val % 2 := by
  revert c; decide

variable {m A B}

/-- Device `c`'s first operand holds rows `1024 (c / 2)` on and columns `512 (c mod 2)` on of `A`; -/
theorem matA_eq (h : Placed m A B) (c : Dev nD) (r : Fin 1024) (k : Fin 512) (r' : Fin 2048) (k' : Fin 1024)
    (hr : r'.val = 1024 * (c.val / 2) + r.val) (hk : k'.val = 512 * (c.val % 2) + k.val) : matA m c r k = A (ix2 r' k') := by
  unfold matA
  rw [(h c).1]
  refine congrArg A (Shape.idx_ext₂ ?_ ?_)
  · show Layout.meshLin [2, 2] c.val [0] * 1024 + r.val = r'.val
    rw [(coords c).1]; omega
  · show Layout.meshLin [2, 2] c.val [1] * 512 + k.val = k'.val
    rw [(coords c).2]; omega

/-- its second operand rows `512 (c mod 2)` on of `B`. -/
theorem matB_eq (h : Placed m A B) (c : Dev nD) (k : Fin 512) (q : Fin 1024) (k' : Fin 1024)
    (hk : k'.val = 512 * (c.val % 2) + k.val) : matB m c k q = B (ix2 k' q) := by
  unfold matB
  rw [(h c).2]
  refine congrArg B (Shape.idx_ext₂ ?_ ?_)
  · show Layout.meshLin [2, 2] c.val [1] * 512 + k.val = k'.val
    rw [(coords c).2]; omega
  · show 0 * 1024 + q.val = q.val
    omega

/-- A device's sum of 512 products is its half of the whole product's sum. -/
theorem half_eq (h : Placed m A B) (c : Dev nD) (r q : Fin 1024) (r' : Fin 2048) (hr : r'.val = 1024 * (c.val / 2) + r.val) (y : ℕ)
    (hy : c.val % 2 = y) (hy2 : y < 2) :
    ∑ k : Fin 512, matA m c r k * matB m c k q
      = ∑ k : Fin 512, A (ix2 r' ⟨512 * y + k.val, by omega⟩) * B (ix2 (n0 := 1024) ⟨512 * y + k.val, by omega⟩ q) := by
  subst hy
  exact Finset.sum_congr rfl fun k _ => congrArg₂ (· * ·) (matA_eq h c r k r' _ hr rfl) (matB_eq h c k q _ rfl)

/-- The equation: a device's result is its row block of the whole product. -/
theorem outAt_eq (h : Placed m A B) (c : Dev nD) :
    outAt m ρ c = Layout.blockN ⟨2, ![1024, 1024]⟩ ⟨2, ![2048, 1024]⟩ (Layout.meshBlock [2, 2] ![[0], []] c) (whole A B) := by
  funext i
  obtain ⟨r, q, rfl⟩ : ∃ (r q : Fin 1024), i = ix2 r q := ⟨i 0, i 1, (eq_ix2 i).symm ▸ rfl⟩
  have hc : c.val / 2 < 2 := by have : c.val < 4 := c.isLt; omega
  have hr : 1024 * (c.val / 2) + r.val < 2048 := by omega
  refine (outAt_apply m ρ c r q).trans ?_
  refine Eq.trans ?_ (congrArg (whole A B) (Shape.idx_ext₂ (x := ix2 ⟨1024 * (c.val / 2) + r.val, hr⟩ q) ?_ ?_))
  · rw [whole_apply, sum_halves _ (c.val % 2) (Nat.mod_lt _ (by decide)),
      half_eq h c r q ⟨1024 * (c.val / 2) + r.val, hr⟩ rfl (c.val % 2) rfl (Nat.mod_lt _ (by decide)),
      half_eq h (peer c) r q ⟨1024 * (c.val / 2) + r.val, hr⟩ (by rw [(peer_coords c).1]) (1 - c.val % 2) (peer_coords c).2 (by omega)]
  · show 1024 * (c.val / 2) + r.val = Layout.meshLin [2, 2] c.val [0] * 1024 + r.val
    rw [(coords c).1]; omega
  · show q.val = 0 * 1024 + q.val
    omega

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Product
public import Idealize.ShloMosaic.Adequacy
public import Idealize.ShloMosaic.Init

@[expose] public section

noncomputable section

namespace Cert.Proof

open Idealize.ShloMosaic Idealize.SL.Sem Cert.Exchange

/-- On the mesh, for any float values: every weakly fair execution of the kernel ends, its arguments unchanged, every
semaphore counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (final_a m ρ c), (h.1 c (1 : Fin 3)).trans (final_b m ρ c)⟩, h.2⟩)
    (run_main m ρ)

/-- The program printed for words and the one printed for the extended reals have the same text: the same kernel body, -/
theorem bodies_eq {F : FTy → Type} [FloatOps F] : Cert.Kernel.defs₀ (F := F) = Cert.KernelIdeal.defs₀ (F := F) :=
  congrArg (Defs.onTc (Λ := Cert.KernelIdeal.Λ₀)) (funext fun l => funext fun a => match l, a with
    | 0, (_, _) => rfl)

/-- so the same bodies. -/
theorem defs_eq {F : FTy → Type} [FloatOps F] : Cert.Kernel.defs (F := F) = Cert.KernelIdeal.defs (F := F) :=
  congrArg (Pipeline.defs (Cert.KernelIdeal.pcfgs (F := F))) bodies_eq

/-- At bf16 and f32 words. -/
theorem frame_kernel : Cert.quiescent_Kernel := fun m ρ _ => by
  have h := frame_any (F := Bits) m ρ
  rw [← defs_eq] at h
  exact h

/-- At the extended reals. -/
theorem frame_ideal : Cert.quiescent_KernelIdeal := fun m ρ _ => frame_any (F := Ideal) m ρ

/-- The reference's run on its one device. It declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals: when each device starts with its blocks of `A` and `B`, it ends with its row block of the
reference's product, whatever the contents. -/
theorem product : Cert.algebraic_KernelIdeal_ReferenceIdeal := fun m ρ m' ρ' _ hp =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (final_out m ρ c)).trans (outAt_eq ρ hp c),
        (h.1 c (0 : Fin 3)).trans (final_a m ρ c), (h.1 c (1 : Fin 3)).trans (final_b m ρ c)⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, product⟩

end Cert.Proof

end
